-- ==== Defs.lean ====
def Pre_Kernel [hPre_perm_in_columns : Cert.Pre_perm_in_columns.Facts] (m : (ℓ : Loc Cert.Kernel.nD Cert.Kernel.τ Cert.Kernel.sig) → Buf (Elt Bits) ℓ) : Prop :=
  ∀ c : Dev Cert.Kernel.nD,
    (Cert.Pre_perm_in_columns.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_perm_in_columns : Cert.Pre_perm_in_columns.Facts] (m : (ℓ : Loc Cert.KernelIdeal.nD Cert.KernelIdeal.τ Cert.KernelIdeal.sig) → Buf (Elt Ideal) ℓ) : Prop :=
  ∀ c : Dev Cert.KernelIdeal.nD,
    (Cert.Pre_perm_in_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_perm_in_columns [hPre_perm_in_columns : Cert.Pre_perm_in_columns.Facts] (m : (ℓ : Loc Cert.Reference.nD Cert.Reference.τ Cert.Reference.sig) → Buf (Elt Bits) ℓ) : Prop :=
  ∀ c : Dev Cert.Reference.nD,
    (Cert.Pre_perm_in_columns.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_perm_in_columns [hPre_perm_in_columns : Cert.Pre_perm_in_columns.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_perm_in_columns.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_perm_in_columns : Cert.Pre_perm_in_columns.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_perm_in_columns : Cert.Pre_perm_in_columns.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_perm_in_columns [hReference : Cert.Reference.Facts] [hPre_perm_in_columns : Cert.Pre_perm_in_columns.Facts] : Prop :=
  ∀ (m : (ℓ : Loc Cert.Reference.nD Cert.Reference.τ Cert.Reference.sig) → Buf (Elt Bits) ℓ) (g : Dev Cert.Reference.nD → PrngReg), Pre_Reference_perm_in_columns m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_perm_in_columns [hReferenceIdeal : Cert.ReferenceIdeal.Facts] [hPre_perm_in_columns : Cert.Pre_perm_in_columns.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_perm_in_columns m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_perm_in_columns : Cert.Pre_perm_in_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_perm_in_columns : Cert.Pre_perm_in_columns.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts) (hPre_perm_in_columns : Cert.Pre_perm_in_columns.Facts),
    quiescent_Kernel (hKernel := hKernel) (hPre_perm_in_columns := hPre_perm_in_columns)
    ∧ quiescent_KernelIdeal (hKernelIdeal := hKernelIdeal) (hPre_perm_in_columns := hPre_perm_in_columns)
    ∧ quiescent_Reference (hReference := hReference)
    ∧ quiescent_Reference_pre_perm_in_columns (hReference := hReference) (hPre_perm_in_columns := hPre_perm_in_columns)
    ∧ quiescent_ReferenceIdeal (hReferenceIdeal := hReferenceIdeal)
    ∧ quiescent_ReferenceIdeal_pre_perm_in_columns (hReferenceIdeal := hReferenceIdeal) (hPre_perm_in_columns := hPre_perm_in_columns)
    ∧ preserves_Kernel_KernelIdeal
    ∧ algebraic_KernelIdeal_ReferenceIdeal (hKernelIdeal := hKernelIdeal) (hReferenceIdeal := hReferenceIdeal) (hPre_perm_in_columns := hPre_perm_in_columns)
    ∧ bitexact_Kernel_Reference (hKernel := hKernel) (hReference := hReference) (hPre_perm_in_columns := hPre_perm_in_columns)
-- ==== Pre_perm_in_columns.lean ====
abbrev S65536x512 : Shape := ⟨2, ![65536, 512]⟩
abbrev S512 : Shape := ⟨1, ![512]⟩
abbrev S_ : Shape := ⟨0, ![]⟩

class Facts : Prop where
  bcast_S_S512 : S_.BroadcastsInDim S512 (![] : Fin 0 → Fin S512.rank)

variable [Facts]

def fn {F : FTy → Type} [FloatOps F] (main_arg0 : FVec F S65536x512 .f32) (main_arg1 : IVec S512 32) : IVec S512 1 :=
  let main_c : IVec S_ 32 := constantI S_ 32 0#32
  let main_v0 : IVec S512 32 := broadcastInDim S512 ![] bcast_S_S512 main_c
  let main_v1 : IVec S512 1 := cmpi .sge main_arg1 main_v0
  let main_c_0 : IVec S_ 32 := constantI S_ 32 512#32
  let main_v2 : IVec S512 32 := broadcastInDim S512 ![] bcast_S_S512 main_c_0
  let main_v3 : IVec S512 1 := cmpi .slt main_arg1 main_v2
  let main_v4 : IVec S512 1 := andi main_v1 main_v3
  main_v4
-- ==== Kernel.lean ====
abbrev S65536x512 : Shape := ⟨2, ![65536, 512]⟩
abbrev S512 : Shape := ⟨1, ![512]⟩
abbrev S64x512 : Shape := ⟨2, ![64, 512]⟩
abbrev S32x512 : Shape := ⟨2, ![32, 512]⟩
abbrev S_ : Shape := ⟨0, ![]⟩
abbrev S16 : Shape := ⟨1, ![16]⟩
abbrev S1x16 : Shape := ⟨2, ![1, 16]⟩

abbrev nBuf : Table → Nat
  | .hbm => 3
  | .local .scVector .vmem => 5
  | _ => 0

abbrev bufTy : (tb : Table) → Fin (nBuf tb) → BufTy
  | .hbm, ⟨0, _⟩ => ⟨S65536x512, .f32⟩
  | .hbm, ⟨1, _⟩ => ⟨S512, .i32⟩
  | .hbm, ⟨2, _⟩ => ⟨S65536x512, .f32⟩
  | .local .scVector .vmem, ⟨0, _⟩ => ⟨S512, .i32⟩
  | .local .scVector .vmem, ⟨1, _⟩ => ⟨S64x512, .f32⟩
  | .local .scVector .vmem, ⟨2, _⟩ => ⟨S64x512, .f32⟩
  | .local .scVector .vmem, ⟨3, _⟩ => ⟨S32x512, .f32⟩
  | .local .scVector .vmem, ⟨4, _⟩ => ⟨S32x512, .f32⟩
  | _, _ => ⟨S65536x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32 : BitVec 32 := 0#32
  let v3 : BitVec 32 := Scalar.addi v2 c0_i32
  let c0_i32_0 : BitVec 32 := 0#32
  ![v3.toNat, 0]
@[reducible] def k0_t1_loop : Scf.Loop 32 :=
  let c0_i32_3 : BitVec 32 := 0#32
  let c16_i32 : BitVec 32 := 16#32
  let v6 : BitVec 32 := Scalar.addi c0_i32_3 c16_i32
  let c1_i32 : BitVec 32 := 1#32
  ⟨c0_i32_3, v6, c1_i32⟩
def k0_cond1 (k0_t1 : Fin k0_t1_loop.trips) : BitVec 1 :=
  let c2_i32_13 : BitVec 32 := 2#32
  let c0_i32_3 : BitVec 32 := 0#32
  let c1_i32 : BitVec 32 := 1#32
  let arg14 : BitVec 32 := Scf.iv c0_i32_3 c1_i32 k0_t1
  let v11 : BitVec 32 := Scalar.muli c2_i32_13 arg14
  let c0_i32_14 : BitVec 32 := 0#32
  let v12 : BitVec 32 := Scalar.addi v11 c0_i32_14
  let c1_i32_19 : BitVec 32 := 1#32
  let v15 : BitVec 32 := Scalar.addi v12 c1_i32_19
  let c32_i32 : BitVec 32 := 32#32
  let v16 : BitVec 1 := Scalar.cmpi .slt v15 c32_i32
  let v17 : BitVec 32 := Scalar.extui v16
  let c0_i32_20 : BitVec 32 := 0#32
  let v18 : BitVec 1 := Scalar.cmpi .ne v17 c0_i32_20
  v18

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c2_i32_13 : BitVec 32 := 2#32
  let c0_i32_3 : BitVec 32 := 0#32
  let c1_i32 : BitVec 32 := 1#32
  let arg14 : BitVec 32 := Scf.iv c0_i32_3 c1_i32 k0_t1
  let v11 : BitVec 32 := Scalar.muli c2_i32_13 arg14
  let c0_i32_14 : BitVec 32 := 0#32
  let v12 : BitVec 32 := Scalar.addi v11 c0_i32_14
  let c1_i32_165 : BitVec 32 := 1#32
  let v191 : BitVec 32 := Scalar.addi v12 c1_i32_165
  let c64_i32_166 : BitVec 32 := 64#32
  let v192 : BitVec 32 := Scalar.muli v191 c64_i32_166
  let v193 : BitVec 32 := Scalar.addi v2 v192
  let c0_i32_167 : BitVec 32 := 0#32
  ![v193.toNat, 0]
@[reducible] def k0_t2_loop : Scf.Loop 32 :=
  let c0_i32_23 : BitVec 32 := 0#32
  let c32_i32_24 : BitVec 32 := 32#32
  let v54 : BitVec 32 := Scalar.addi c0_i32_23 c32_i32_24
  let c1_i32_25 : BitVec 32 := 1#32
  ⟨c0_i32_23, v54, c1_i32_25⟩
def k0_off3 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v196 : Index := Scalar.indexCast v192
  let c0_168 : Index := 0#32
  ![v196.toNat, 0]
def k0_off4 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v199 : Index := Scalar.indexCast v192
  let c16_169 : Index := 16#32
  ![v199.toNat, 16]
def k0_off5 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v202 : Index := Scalar.indexCast v192
  let c32_170 : Index := 32#32
  ![v202.toNat, 32]
def k0_off6 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v205 : Index := Scalar.indexCast v192
  let c48_171 : Index := 48#32
  ![v205.toNat, 48]
def k0_off7 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v208 : Index := Scalar.indexCast v192
  let c64_172 : Index := 64#32
  ![v208.toNat, 64]
def k0_off8 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v211 : Index := Scalar.indexCast v192
  let c80_173 : Index := 80#32
  ![v211.toNat, 80]
def k0_off9 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v214 : Index := Scalar.indexCast v192
  let c96_174 : Index := 96#32
  ![v214.toNat, 96]
def k0_off10 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v217 : Index := Scalar.indexCast v192
  let c112_175 : Index := 112#32
  ![v217.toNat, 112]
def k0_off11 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v220 : Index := Scalar.indexCast v192
  let c128_176 : Index := 128#32
  ![v220.toNat, 128]
def k0_off12 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v223 : Index := Scalar.indexCast v192
  let c144_177 : Index := 144#32
  ![v223.toNat, 144]
def k0_off13 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v226 : Index := Scalar.indexCast v192
  let c160_178 : Index := 160#32
  ![v226.toNat, 160]
def k0_off14 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v229 : Index := Scalar.indexCast v192
  let c176_179 : Index := 176#32
  ![v229.toNat, 176]
def k0_off15 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v232 : Index := Scalar.indexCast v192
  let c192_180 : Index := 192#32
  ![v232.toNat, 192]
def k0_off16 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v235 : Index := Scalar.indexCast v192
  let c208_181 : Index := 208#32
  ![v235.toNat, 208]
def k0_off17 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v238 : Index := Scalar.indexCast v192
  let c224_182 : Index := 224#32
  ![v238.toNat, 224]
def k0_off18 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v241 : Index := Scalar.indexCast v192
  let c240_183 : Index := 240#32
  ![v241.toNat, 240]
def k0_off19 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v244 : Index := Scalar.indexCast v192
  let c256_184 : Index := 256#32
  ![v244.toNat, 256]
def k0_off20 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v247 : Index := Scalar.indexCast v192
  let c272_185 : Index := 272#32
  ![v247.toNat, 272]
def k0_off21 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v250 : Index := Scalar.indexCast v192
  let c288_186 : Index := 288#32
  ![v250.toNat, 288]
def k0_off22 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v253 : Index := Scalar.indexCast v192
  let c304_187 : Index := 304#32
  ![v253.toNat, 304]
def k0_off23 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v256 : Index := Scalar.indexCast v192
  let c320_188 : Index := 320#32
  ![v256.toNat, 320]
def k0_off24 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v259 : Index := Scalar.indexCast v192
  let c336_189 : Index := 336#32
  ![v259.toNat, 336]
def k0_off25 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v262 : Index := Scalar.indexCast v192
  let c352_190 : Index := 352#32
  ![v262.toNat, 352]
def k0_off26 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v265 : Index := Scalar.indexCast v192
  let c368_191 : Index := 368#32
  ![v265.toNat, 368]
def k0_off27 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v268 : Index := Scalar.indexCast v192
  let c384_192 : Index := 384#32
  ![v268.toNat, 384]
def k0_off28 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v271 : Index := Scalar.indexCast v192
  let c400_193 : Index := 400#32
  ![v271.toNat, 400]
def k0_off29 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v274 : Index := Scalar.indexCast v192
  let c416_194 : Index := 416#32
  ![v274.toNat, 416]
def k0_off30 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v277 : Index := Scalar.indexCast v192
  let c432_195 : Index := 432#32
  ![v277.toNat, 432]
def k0_off31 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v280 : Index := Scalar.indexCast v192
  let c448_196 : Index := 448#32
  ![v280.toNat, 448]
def k0_off32 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v283 : Index := Scalar.indexCast v192
  let c464_197 : Index := 464#32
  ![v283.toNat, 464]
def k0_off33 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v286 : Index := Scalar.indexCast v192
  let c480_198 : Index := 480#32
  ![v286.toNat, 480]

def k0_chk1 (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) : Prop :=
  (∀ a x, ((![v194, v22] : Fin 2 → IVec S16 32) a x).toNat < S64x512.size a) ∧
  (∀ a x, ((![v194, v23] : Fin 2 → IVec S16 32) a x).toNat < S64x512.size a) ∧
  (∀ a x, ((![v194, v24] : Fin 2 → IVec S16 32) a x).toNat < S64x512.size a) ∧
  (∀ a x, ((![v194, v25] : Fin 2 → IVec S16 32) a x).toNat < S64x512.size a) ∧
  (∀ a x, ((![v194, v26] : Fin 2 → IVec S16 32) a x).toNat < S64x512.size a) ∧
  (∀ a x, ((![v194, v27] : Fin 2 → IVec S16 32) a x).toNat < S64x512.size a) ∧
  (∀ a x, ((![v194, v28] : Fin 2 → IVec S16 32) a x).toNat < S64x512.size a) ∧
  (∀ a x, ((![v194, v29] : Fin 2 → IVec S16 32) a x).toNat < S64x512.size a) ∧
  (∀ a x, ((![v194, v30] : Fin 2 → IVec S16 32) a x).toNat < S64x512.size a) ∧
  (∀ a x, ((![v194, v31] : Fin 2 → IVec S16 32) a x).toNat < S64x512.size a) ∧
  (∀ a x, ((![v194, v32] : Fin 2 → IVec S16 32) a x).toNat < S64x512.size a) ∧
  (∀ a x, ((![v194, v33] : Fin 2 → IVec S16 32) a x).toNat < S64x512.size a) ∧
  (∀ a x, ((![v194, v34] : Fin 2 → IVec S16 32) a x).toNat < S64x512.size a) ∧
  (∀ a x, ((![v194, v35] : Fin 2 → IVec S16 32) a x).toNat < S64x512.size a) ∧
  (∀ a x, ((![v194, v36] : Fin 2 → IVec S16 32) a x).toNat < S64x512.size a) ∧
  (∀ a x, ((![v194, v37] : Fin 2 → IVec S16 32) a x).toNat < S64x512.size a) ∧
  (∀ a x, ((![v194, v38] : Fin 2 → IVec S16 32) a x).toNat < S64x512.size a) ∧
  (∀ a x, ((![v194, v39] : Fin 2 → IVec S16 32) a x).toNat < S64x512.size a) ∧
  (∀ a x, ((![v194, v40] : Fin 2 → IVec S16 32) a x).toNat < S64x512.size a) ∧
  (∀ a x, ((![v194, v41] : Fin 2 → IVec S16 32) a x).toNat < S64x512.size a) ∧
  (∀ a x, ((![v194, v42] : Fin 2 → IVec S16 32) a x).toNat < S64x512.size a) ∧
  (∀ a x, ((![v194, v43] : Fin 2 → IVec S16 32) a x).toNat < S64x512.size a) ∧
  (∀ a x, ((![v194, v44] : Fin 2 → IVec S16 32) a x).toNat < S64x512.size a) ∧
  (∀ a x, ((![v194, v45] : Fin 2 → IVec S16 32) a x).toNat < S64x512.size a) ∧
  (∀ a x, ((![v194, v46] : Fin 2 → IVec S16 32) a x).toNat < S64x512.size a) ∧
  (∀ a x, ((![v194, v47] : Fin 2 → IVec S16 32) a x).toNat < S64x512.size a) ∧
  (∀ a x, ((![v194, v48] : Fin 2 → IVec S16 32) a x).toNat < S64x512.size a) ∧
  (∀ a x, ((![v194, v49] : Fin 2 → IVec S16 32) a x).toNat < S64x512.size a) ∧
  (∀ a x, ((![v194, v50] : Fin 2 → IVec S16 32) a x).toNat < S64x512.size a) ∧
  (∀ a x, ((![v194, v51] : Fin 2 → IVec S16 32) a x).toNat < S64x512.size a) ∧
  (∀ a x, ((![v194, v52] : Fin 2 → IVec S16 32) a x).toNat < S64x512.size a) ∧
  (∀ a x, ((![v194, v53] : Fin 2 → IVec S16 32) a x).toNat < S64x512.size a)
theorem k0_idx1_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v22] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.1
theorem k0_idx2_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v23] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.1
theorem k0_idx3_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v24] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.1
theorem k0_idx4_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v25] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.1
theorem k0_idx5_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v26] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.1
theorem k0_idx6_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v27] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.1
theorem k0_idx7_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v28] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.1
theorem k0_idx8_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v29] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.1
theorem k0_idx9_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v30] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.1
theorem k0_idx10_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v31] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.1
theorem k0_idx11_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v32] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.1
theorem k0_idx12_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v33] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.1
theorem k0_idx13_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v34] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.1
theorem k0_idx14_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v35] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.1
theorem k0_idx15_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v36] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.1
theorem k0_idx16_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v37] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.1
theorem k0_idx17_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v38] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.1
theorem k0_idx18_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v39] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.2.1
theorem k0_idx19_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v40] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.2.2.1
theorem k0_idx20_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v41] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.2.2.2.1
theorem k0_idx21_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v42] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.2.2.2.2.1
theorem k0_idx22_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v43] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.2.2.2.2.2.1
theorem k0_idx23_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v44] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.2.2.2.2.2.2.1
theorem k0_idx24_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v45] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.2.2.2.2.2.2.2.1
theorem k0_idx25_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v46] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.2.2.2.2.2.2.2.2.1
theorem k0_idx26_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v47] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.2.2.2.2.2.2.2.2.2.1
theorem k0_idx27_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v48] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.2.2.2.2.2.2.2.2.2.2.1
theorem k0_idx28_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v49] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.2.2.2.2.2.2.2.2.2.2.2.1
theorem k0_idx29_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v50] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.2.2.2.2.2.2.2.2.2.2.2.2.1
theorem k0_idx30_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v51] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.2.2.2.2.2.2.2.2.2.2.2.2.2.1
theorem k0_idx31_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v52] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.2.2.2.2.2.2.2.2.2.2.2.2.2.2.1
theorem k0_idx32_inb : ∀ (v22 : IVec S16 32) (v23 : IVec S16 32) (v24 : IVec S16 32) (v25 : IVec S16 32) (v26 : IVec S16 32) (v27 : IVec S16 32) (v28 : IVec S16 32) (v29 : IVec S16 32) (v30 : IVec S16 32) (v31 : IVec S16 32) (v32 : IVec S16 32) (v33 : IVec S16 32) (v34 : IVec S16 32) (v35 : IVec S16 32) (v36 : IVec S16 32) (v37 : IVec S16 32) (v38 : IVec S16 32) (v39 : IVec S16 32) (v40 : IVec S16 32) (v41 : IVec S16 32) (v42 : IVec S16 32) (v43 : IVec S16 32) (v44 : IVec S16 32) (v45 : IVec S16 32) (v46 : IVec S16 32) (v47 : IVec S16 32) (v48 : IVec S16 32) (v49 : IVec S16 32) (v50 : IVec S16 32) (v51 : IVec S16 32) (v52 : IVec S16 32) (v53 : IVec S16 32) (v194 : IVec S16 32) (k0_hw1 : k0_chk1 v22 v23 v24 v25 v26 v27 v28 v29 v30 v31 v32 v33 v34 v35 v36 v37 v38 v39 v40 v41 v42 v43 v44 v45 v46 v47 v48 v49 v50 v51 v52 v53 v194), ∀ a x, ((![v194, v53] : Fin 2 → IVec S16 32) a x).toNat < S64x512.size a := fun v22 v23 v24 v25 v26 v27 v28 v29 v30 v31 v32 v33 v34 v35 v36 v37 v38 v39 v40 v41 v42 v43 v44 v45 v46 v47 v48 v49 v50 v51 v52 v53 v194 k0_hw1 => k0_hw1.2.2.2.2.2.2.2.2.2.2.2.2.2.2.2.2.2.2.2.2.2.2.2.2.2.2.2.2.2.2.2
def k0_off34 (k0_t2 : Fin k0_t2_loop.trips) : Fin 2 → Nat :=
  let c0_i32_166 : BitVec 32 := 0#32
  let c0_i32_23 : BitVec 32 := 0#32
  let c1_i32_25 : BitVec 32 := 1#32
  let arg15 : BitVec 32 := Scf.iv c0_i32_23 c1_i32_25 k0_t2
  let c1_i32_165 : BitVec 32 := 1#32
  let v191 : BitVec 32 := Scalar.muli arg15 c1_i32_165
  let v192 : BitVec 32 := Scalar.addi c0_i32_166 v191
  let v289 : Index := Scalar.indexCast v192
  let c496_199 : Index := 496#32
  ![v289.toNat, 496]
def k0_off35 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c2_i32_13 : BitVec 32 := 2#32
  let c0_i32_3 : BitVec 32 := 0#32
  let c1_i32 : BitVec 32 := 1#32
  let arg14 : BitVec 32 := Scf.iv c0_i32_3 c1_i32 k0_t1
  let v11 : BitVec 32 := Scalar.muli c2_i32_13 arg14
  let c0_i32_14 : BitVec 32 := 0#32
  let v12 : BitVec 32 := Scalar.addi v11 c0_i32_14
  let c64_i32 : BitVec 32 := 64#32
  let v55 : BitVec 32 := Scalar.muli v12 c64_i32
  let v56 : BitVec 32 := Scalar.addi v2 v55
  let c0_i32_27 : BitVec 32 := 0#32
  let v57 : BitVec 32 := Scalar.addi v56 c0_i32_27
  let c0_i32_28 : BitVec 32 := 0#32
  ![v57.toNat, 0]
@[reducible] def k0_t3_loop : Scf.Loop 32 :=
  let c0_i32_64 : BitVec 32 := 0#32
  let c32_i32_65 : BitVec 32 := 32#32
  let v95 : BitVec 32 := Scalar.addi c0_i32_64 c32_i32_65
  let c1_i32_66 : BitVec 32 := 1#32
  ⟨c0_i32_64, v95, c1_i32_66⟩
def k0_off36 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v196 : Index := Scalar.indexCast v192
  let c0_168 : Index := 0#32
  ![v196.toNat, 0]
def k0_off37 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v199 : Index := Scalar.indexCast v192
  let c16_169 : Index := 16#32
  ![v199.toNat, 16]
def k0_off38 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v202 : Index := Scalar.indexCast v192
  let c32_170 : Index := 32#32
  ![v202.toNat, 32]
def k0_off39 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v205 : Index := Scalar.indexCast v192
  let c48_171 : Index := 48#32
  ![v205.toNat, 48]
def k0_off40 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v208 : Index := Scalar.indexCast v192
  let c64_172 : Index := 64#32
  ![v208.toNat, 64]
def k0_off41 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v211 : Index := Scalar.indexCast v192
  let c80_173 : Index := 80#32
  ![v211.toNat, 80]
def k0_off42 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v214 : Index := Scalar.indexCast v192
  let c96_174 : Index := 96#32
  ![v214.toNat, 96]
def k0_off43 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v217 : Index := Scalar.indexCast v192
  let c112_175 : Index := 112#32
  ![v217.toNat, 112]
def k0_off44 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v220 : Index := Scalar.indexCast v192
  let c128_176 : Index := 128#32
  ![v220.toNat, 128]
def k0_off45 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v223 : Index := Scalar.indexCast v192
  let c144_177 : Index := 144#32
  ![v223.toNat, 144]
def k0_off46 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v226 : Index := Scalar.indexCast v192
  let c160_178 : Index := 160#32
  ![v226.toNat, 160]
def k0_off47 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v229 : Index := Scalar.indexCast v192
  let c176_179 : Index := 176#32
  ![v229.toNat, 176]
def k0_off48 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v232 : Index := Scalar.indexCast v192
  let c192_180 : Index := 192#32
  ![v232.toNat, 192]
def k0_off49 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v235 : Index := Scalar.indexCast v192
  let c208_181 : Index := 208#32
  ![v235.toNat, 208]
def k0_off50 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v238 : Index := Scalar.indexCast v192
  let c224_182 : Index := 224#32
  ![v238.toNat, 224]
def k0_off51 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v241 : Index := Scalar.indexCast v192
  let c240_183 : Index := 240#32
  ![v241.toNat, 240]
def k0_off52 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v244 : Index := Scalar.indexCast v192
  let c256_184 : Index := 256#32
  ![v244.toNat, 256]
def k0_off53 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v247 : Index := Scalar.indexCast v192
  let c272_185 : Index := 272#32
  ![v247.toNat, 272]
def k0_off54 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v250 : Index := Scalar.indexCast v192
  let c288_186 : Index := 288#32
  ![v250.toNat, 288]
def k0_off55 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v253 : Index := Scalar.indexCast v192
  let c304_187 : Index := 304#32
  ![v253.toNat, 304]
def k0_off56 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v256 : Index := Scalar.indexCast v192
  let c320_188 : Index := 320#32
  ![v256.toNat, 320]
def k0_off57 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v259 : Index := Scalar.indexCast v192
  let c336_189 : Index := 336#32
  ![v259.toNat, 336]
def k0_off58 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v262 : Index := Scalar.indexCast v192
  let c352_190 : Index := 352#32
  ![v262.toNat, 352]
def k0_off59 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v265 : Index := Scalar.indexCast v192
  let c368_191 : Index := 368#32
  ![v265.toNat, 368]
def k0_off60 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v268 : Index := Scalar.indexCast v192
  let c384_192 : Index := 384#32
  ![v268.toNat, 384]
def k0_off61 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v271 : Index := Scalar.indexCast v192
  let c400_193 : Index := 400#32
  ![v271.toNat, 400]
def k0_off62 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v274 : Index := Scalar.indexCast v192
  let c416_194 : Index := 416#32
  ![v274.toNat, 416]
def k0_off63 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v277 : Index := Scalar.indexCast v192
  let c432_195 : Index := 432#32
  ![v277.toNat, 432]
def k0_off64 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v280 : Index := Scalar.indexCast v192
  let c448_196 : Index := 448#32
  ![v280.toNat, 448]
def k0_off65 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v283 : Index := Scalar.indexCast v192
  let c464_197 : Index := 464#32
  ![v283.toNat, 464]
def k0_off66 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v286 : Index := Scalar.indexCast v192
  let c480_198 : Index := 480#32
  ![v286.toNat, 480]

def k0_chk2 (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) : Prop :=
  (∀ a x, ((![v194, v63] : Fin 2 → IVec S16 32) a x).toNat < S64x512.size a) ∧
  (∀ a x, ((![v194, v64] : Fin 2 → IVec S16 32) a x).toNat < S64x512.size a) ∧
  (∀ a x, ((![v194, v65] : Fin 2 → IVec S16 32) a x).toNat < S64x512.size a) ∧
  (∀ a x, ((![v194, v66] : Fin 2 → IVec S16 32) a x).toNat < S64x512.size a) ∧
  (∀ a x, ((![v194, v67] : Fin 2 → IVec S16 32) a x).toNat < S64x512.size a) ∧
  (∀ a x, ((![v194, v68] : Fin 2 → IVec S16 32) a x).toNat < S64x512.size a) ∧
  (∀ a x, ((![v194, v69] : Fin 2 → IVec S16 32) a x).toNat < S64x512.size a) ∧
  (∀ a x, ((![v194, v70] : Fin 2 → IVec S16 32) a x).toNat < S64x512.size a) ∧
  (∀ a x, ((![v194, v71] : Fin 2 → IVec S16 32) a x).toNat < S64x512.size a) ∧
  (∀ a x, ((![v194, v72] : Fin 2 → IVec S16 32) a x).toNat < S64x512.size a) ∧
  (∀ a x, ((![v194, v73] : Fin 2 → IVec S16 32) a x).toNat < S64x512.size a) ∧
  (∀ a x, ((![v194, v74] : Fin 2 → IVec S16 32) a x).toNat < S64x512.size a) ∧
  (∀ a x, ((![v194, v75] : Fin 2 → IVec S16 32) a x).toNat < S64x512.size a) ∧
  (∀ a x, ((![v194, v76] : Fin 2 → IVec S16 32) a x).toNat < S64x512.size a) ∧
  (∀ a x, ((![v194, v77] : Fin 2 → IVec S16 32) a x).toNat < S64x512.size a) ∧
  (∀ a x, ((![v194, v78] : Fin 2 → IVec S16 32) a x).toNat < S64x512.size a) ∧
  (∀ a x, ((![v194, v79] : Fin 2 → IVec S16 32) a x).toNat < S64x512.size a) ∧
  (∀ a x, ((![v194, v80] : Fin 2 → IVec S16 32) a x).toNat < S64x512.size a) ∧
  (∀ a x, ((![v194, v81] : Fin 2 → IVec S16 32) a x).toNat < S64x512.size a) ∧
  (∀ a x, ((![v194, v82] : Fin 2 → IVec S16 32) a x).toNat < S64x512.size a) ∧
  (∀ a x, ((![v194, v83] : Fin 2 → IVec S16 32) a x).toNat < S64x512.size a) ∧
  (∀ a x, ((![v194, v84] : Fin 2 → IVec S16 32) a x).toNat < S64x512.size a) ∧
  (∀ a x, ((![v194, v85] : Fin 2 → IVec S16 32) a x).toNat < S64x512.size a) ∧
  (∀ a x, ((![v194, v86] : Fin 2 → IVec S16 32) a x).toNat < S64x512.size a) ∧
  (∀ a x, ((![v194, v87] : Fin 2 → IVec S16 32) a x).toNat < S64x512.size a) ∧
  (∀ a x, ((![v194, v88] : Fin 2 → IVec S16 32) a x).toNat < S64x512.size a) ∧
  (∀ a x, ((![v194, v89] : Fin 2 → IVec S16 32) a x).toNat < S64x512.size a) ∧
  (∀ a x, ((![v194, v90] : Fin 2 → IVec S16 32) a x).toNat < S64x512.size a) ∧
  (∀ a x, ((![v194, v91] : Fin 2 → IVec S16 32) a x).toNat < S64x512.size a) ∧
  (∀ a x, ((![v194, v92] : Fin 2 → IVec S16 32) a x).toNat < S64x512.size a) ∧
  (∀ a x, ((![v194, v93] : Fin 2 → IVec S16 32) a x).toNat < S64x512.size a) ∧
  (∀ a x, ((![v194, v94] : Fin 2 → IVec S16 32) a x).toNat < S64x512.size a)
theorem k0_idx33_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v63] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.1
theorem k0_idx34_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v64] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.1
theorem k0_idx35_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v65] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.1
theorem k0_idx36_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v66] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.1
theorem k0_idx37_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v67] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.1
theorem k0_idx38_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v68] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.1
theorem k0_idx39_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v69] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.1
theorem k0_idx40_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v70] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.1
theorem k0_idx41_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v71] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.1
theorem k0_idx42_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v72] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.1
theorem k0_idx43_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v73] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.1
theorem k0_idx44_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v74] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.1
theorem k0_idx45_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v75] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.1
theorem k0_idx46_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v76] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.1
theorem k0_idx47_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v77] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.1
theorem k0_idx48_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v78] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.1
theorem k0_idx49_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v79] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.1
theorem k0_idx50_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v80] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.2.1
theorem k0_idx51_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v81] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.2.2.1
theorem k0_idx52_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v82] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.2.2.2.1
theorem k0_idx53_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v83] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.2.2.2.2.1
theorem k0_idx54_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v84] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.2.2.2.2.2.1
theorem k0_idx55_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v85] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.2.2.2.2.2.2.1
theorem k0_idx56_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v86] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.2.2.2.2.2.2.2.1
theorem k0_idx57_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v87] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.2.2.2.2.2.2.2.2.1
theorem k0_idx58_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v88] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.2.2.2.2.2.2.2.2.2.1
theorem k0_idx59_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v89] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.2.2.2.2.2.2.2.2.2.2.1
theorem k0_idx60_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v90] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.2.2.2.2.2.2.2.2.2.2.2.1
theorem k0_idx61_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v91] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.2.2.2.2.2.2.2.2.2.2.2.2.1
theorem k0_idx62_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v92] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.2.2.2.2.2.2.2.2.2.2.2.2.2.1
theorem k0_idx63_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v93] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.2.2.2.2.2.2.2.2.2.2.2.2.2.2.1
theorem k0_idx64_inb : ∀ (v63 : IVec S16 32) (v64 : IVec S16 32) (v65 : IVec S16 32) (v66 : IVec S16 32) (v67 : IVec S16 32) (v68 : IVec S16 32) (v69 : IVec S16 32) (v70 : IVec S16 32) (v71 : IVec S16 32) (v72 : IVec S16 32) (v73 : IVec S16 32) (v74 : IVec S16 32) (v75 : IVec S16 32) (v76 : IVec S16 32) (v77 : IVec S16 32) (v78 : IVec S16 32) (v79 : IVec S16 32) (v80 : IVec S16 32) (v81 : IVec S16 32) (v82 : IVec S16 32) (v83 : IVec S16 32) (v84 : IVec S16 32) (v85 : IVec S16 32) (v86 : IVec S16 32) (v87 : IVec S16 32) (v88 : IVec S16 32) (v89 : IVec S16 32) (v90 : IVec S16 32) (v91 : IVec S16 32) (v92 : IVec S16 32) (v93 : IVec S16 32) (v94 : IVec S16 32) (v194 : IVec S16 32) (k0_hw2 : k0_chk2 v63 v64 v65 v66 v67 v68 v69 v70 v71 v72 v73 v74 v75 v76 v77 v78 v79 v80 v81 v82 v83 v84 v85 v86 v87 v88 v89 v90 v91 v92 v93 v94 v194), ∀ a x, ((![v194, v94] : Fin 2 → IVec S16 32) a x).toNat < S64x512.size a := fun v63 v64 v65 v66 v67 v68 v69 v70 v71 v72 v73 v74 v75 v76 v77 v78 v79 v80 v81 v82 v83 v84 v85 v86 v87 v88 v89 v90 v91 v92 v93 v94 v194 k0_hw2 => k0_hw2.2.2.2.2.2.2.2.2.2.2.2.2.2.2.2.2.2.2.2.2.2.2.2.2.2.2.2.2.2.2.2
def k0_off67 (k0_t3 : Fin k0_t3_loop.trips) : Fin 2 → Nat :=
  let c0_i32_166 : BitVec 32 := 0#32
  let c0_i32_64 : BitVec 32 := 0#32
  let c1_i32_66 : BitVec 32 := 1#32
  let arg15 : BitVec 32 := Scf.iv c0_i32_64 c1_i32_66 k0_t3
  let c1_i32_165 : BitVec 32 := 1#32
  let v191 : BitVec 32 := Scalar.muli arg15 c1_i32_165
  let v192 : BitVec 32 := Scalar.addi c0_i32_166 v191
  let v289 : Index := Scalar.indexCast v192
  let c496_199 : Index := 496#32
  ![v289.toNat, 496]
def k0_off68 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c2_i32_13 : BitVec 32 := 2#32
  let c0_i32_3 : BitVec 32 := 0#32
  let c1_i32 : BitVec 32 := 1#32
  let arg14 : BitVec 32 := Scf.iv c0_i32_3 c1_i32 k0_t1
  let v11 : BitVec 32 := Scalar.muli c2_i32_13 arg14
  let c0_i32_14 : BitVec 32 := 0#32
  let v12 : BitVec 32 := Scalar.addi v11 c0_i32_14
  let c64_i32_68 : BitVec 32 := 64#32
  let v96 : BitVec 32 := Scalar.muli v12 c64_i32_68
  let v97 : BitVec 32 := Scalar.addi v2 v96
  let c32_i32_69 : BitVec 32 := 32#32
  let v98 : BitVec 32 := Scalar.addi v97 c32_i32_69
  let c0_i32_70 : BitVec 32 := 0#32
  ![v98.toNat, 0]
def k0_cond4 (k0_t1 : Fin k0_t1_loop.trips) : BitVec 1 :=
  let c2_i32_72 : BitVec 32 := 2#32
  let c0_i32_3 : BitVec 32 := 0#32
  let c1_i32 : BitVec 32 := 1#32
  let arg14 : BitVec 32 := Scf.iv c0_i32_3 c1_i32 k0_t1
  let v101 : BitVec 32 := Scalar.muli c2_i32_72 arg14
  let c1_i32_73 : BitVec 32 := 1#32
  let v102 : BitVec 32 := Scalar.addi v101 c1_i32_73
  let c1_i32_78 : BitVec 32 := 1#32
  let v105 : BitVec 32 := Scalar.addi v102 c1_i32_78
  let c32_i32_79 : BitVec 32 := 32#32
  let v106 : BitVec 1 := Scalar.cmpi .slt v105 c32_i32_79
  let v107 : BitVec 32 := Scalar.extui v106
  let c0_i32_80 : BitVec 32 := 0#32
  let v108 : BitVec 1 := Scalar.cmpi .ne v107 c0_i32_80
  v108

def k0_off69 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c2_i32_72 : BitVec 32 := 2#32
  let c0_i32_3 : BitVec 32 := 0#32
  let c1_i32 : BitVec 32 := 1#32
  let arg14 : BitVec 32 := Scf.iv c0_i32_3 c1_i32 k0_t1
  let v101 : BitVec 32 := Scalar.muli c2_i32_72 arg14
  let c1_i32_73 : BitVec 32 := 1#32
  let v102 : BitVec 32 := Scalar.addi v101 c1_i32_73
  let c1_i32_165 : BitVec 32 := 1#32
  let v191 : BitVec 32 := Scalar.addi v102 c1_i32_165
  let c64_i32_166 : BitVec 32 := 64#32
  let v192 : BitVec 32 := Scalar.muli v191 c64_i32_166
  let v193 : BitVec 32 := Scalar.addi v2 v192
  let c0_i32_167 : BitVec 32 := 0#32
  ![v193.toNat, 0]
@[reducible] def k0_t4_loop : Scf.Loop 32 :=
  let c0_i32_115 : BitVec 32 := 0#32
  let c32_i32_116 : BitVec 32 := 32#32
  let v144 : BitVec 32 := Scalar.addi c0_i32_115 c32_i32_116
  let c1_i32_117 : BitVec 32 := 1#32
  ⟨c0_i32_115, v144, c1_i32_117⟩
def k0_off70 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v196 : Index := Scalar.indexCast v192
  let c0_168 : Index := 0#32
  ![v196.toNat, 0]
def k0_off71 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v199 : Index := Scalar.indexCast v192
  let c16_169 : Index := 16#32
  ![v199.toNat, 16]
def k0_off72 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v202 : Index := Scalar.indexCast v192
  let c32_170 : Index := 32#32
  ![v202.toNat, 32]
def k0_off73 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v205 : Index := Scalar.indexCast v192
  let c48_171 : Index := 48#32
  ![v205.toNat, 48]
def k0_off74 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v208 : Index := Scalar.indexCast v192
  let c64_172 : Index := 64#32
  ![v208.toNat, 64]
def k0_off75 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v211 : Index := Scalar.indexCast v192
  let c80_173 : Index := 80#32
  ![v211.toNat, 80]
def k0_off76 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v214 : Index := Scalar.indexCast v192
  let c96_174 : Index := 96#32
  ![v214.toNat, 96]
def k0_off77 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v217 : Index := Scalar.indexCast v192
  let c112_175 : Index := 112#32
  ![v217.toNat, 112]
def k0_off78 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v220 : Index := Scalar.indexCast v192
  let c128_176 : Index := 128#32
  ![v220.toNat, 128]
def k0_off79 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v223 : Index := Scalar.indexCast v192
  let c144_177 : Index := 144#32
  ![v223.toNat, 144]
def k0_off80 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v226 : Index := Scalar.indexCast v192
  let c160_178 : Index := 160#32
  ![v226.toNat, 160]
def k0_off81 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v229 : Index := Scalar.indexCast v192
  let c176_179 : Index := 176#32
  ![v229.toNat, 176]
def k0_off82 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v232 : Index := Scalar.indexCast v192
  let c192_180 : Index := 192#32
  ![v232.toNat, 192]
def k0_off83 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v235 : Index := Scalar.indexCast v192
  let c208_181 : Index := 208#32
  ![v235.toNat, 208]
def k0_off84 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v238 : Index := Scalar.indexCast v192
  let c224_182 : Index := 224#32
  ![v238.toNat, 224]
def k0_off85 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v241 : Index := Scalar.indexCast v192
  let c240_183 : Index := 240#32
  ![v241.toNat, 240]
def k0_off86 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v244 : Index := Scalar.indexCast v192
  let c256_184 : Index := 256#32
  ![v244.toNat, 256]
def k0_off87 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v247 : Index := Scalar.indexCast v192
  let c272_185 : Index := 272#32
  ![v247.toNat, 272]
def k0_off88 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v250 : Index := Scalar.indexCast v192
  let c288_186 : Index := 288#32
  ![v250.toNat, 288]
def k0_off89 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v253 : Index := Scalar.indexCast v192
  let c304_187 : Index := 304#32
  ![v253.toNat, 304]
def k0_off90 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v256 : Index := Scalar.indexCast v192
  let c320_188 : Index := 320#32
  ![v256.toNat, 320]
def k0_off91 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v259 : Index := Scalar.indexCast v192
  let c336_189 : Index := 336#32
  ![v259.toNat, 336]
def k0_off92 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v262 : Index := Scalar.indexCast v192
  let c352_190 : Index := 352#32
  ![v262.toNat, 352]
def k0_off93 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v265 : Index := Scalar.indexCast v192
  let c368_191 : Index := 368#32
  ![v265.toNat, 368]
def k0_off94 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v268 : Index := Scalar.indexCast v192
  let c384_192 : Index := 384#32
  ![v268.toNat, 384]
def k0_off95 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v271 : Index := Scalar.indexCast v192
  let c400_193 : Index := 400#32
  ![v271.toNat, 400]
def k0_off96 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v274 : Index := Scalar.indexCast v192
  let c416_194 : Index := 416#32
  ![v274.toNat, 416]
def k0_off97 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v277 : Index := Scalar.indexCast v192
  let c432_195 : Index := 432#32
  ![v277.toNat, 432]
def k0_off98 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v280 : Index := Scalar.indexCast v192
  let c448_196 : Index := 448#32
  ![v280.toNat, 448]
def k0_off99 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v283 : Index := Scalar.indexCast v192
  let c464_197 : Index := 464#32
  ![v283.toNat, 464]
def k0_off100 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v286 : Index := Scalar.indexCast v192
  let c480_198 : Index := 480#32
  ![v286.toNat, 480]

def k0_chk3 (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) : Prop :=
  (∀ a x, ((![v194, v112] : Fin 2 → IVec S16 32) a x).toNat < S64x512.size a) ∧
  (∀ a x, ((![v194, v113] : Fin 2 → IVec S16 32) a x).toNat < S64x512.size a) ∧
  (∀ a x, ((![v194, v114] : Fin 2 → IVec S16 32) a x).toNat < S64x512.size a) ∧
  (∀ a x, ((![v194, v115] : Fin 2 → IVec S16 32) a x).toNat < S64x512.size a) ∧
  (∀ a x, ((![v194, v116] : Fin 2 → IVec S16 32) a x).toNat < S64x512.size a) ∧
  (∀ a x, ((![v194, v117] : Fin 2 → IVec S16 32) a x).toNat < S64x512.size a) ∧
  (∀ a x, ((![v194, v118] : Fin 2 → IVec S16 32) a x).toNat < S64x512.size a) ∧
  (∀ a x, ((![v194, v119] : Fin 2 → IVec S16 32) a x).toNat < S64x512.size a) ∧
  (∀ a x, ((![v194, v120] : Fin 2 → IVec S16 32) a x).toNat < S64x512.size a) ∧
  (∀ a x, ((![v194, v121] : Fin 2 → IVec S16 32) a x).toNat < S64x512.size a) ∧
  (∀ a x, ((![v194, v122] : Fin 2 → IVec S16 32) a x).toNat < S64x512.size a) ∧
  (∀ a x, ((![v194, v123] : Fin 2 → IVec S16 32) a x).toNat < S64x512.size a) ∧
  (∀ a x, ((![v194, v124] : Fin 2 → IVec S16 32) a x).toNat < S64x512.size a) ∧
  (∀ a x, ((![v194, v125] : Fin 2 → IVec S16 32) a x).toNat < S64x512.size a) ∧
  (∀ a x, ((![v194, v126] : Fin 2 → IVec S16 32) a x).toNat < S64x512.size a) ∧
  (∀ a x, ((![v194, v127] : Fin 2 → IVec S16 32) a x).toNat < S64x512.size a) ∧
  (∀ a x, ((![v194, v128] : Fin 2 → IVec S16 32) a x).toNat < S64x512.size a) ∧
  (∀ a x, ((![v194, v129] : Fin 2 → IVec S16 32) a x).toNat < S64x512.size a) ∧
  (∀ a x, ((![v194, v130] : Fin 2 → IVec S16 32) a x).toNat < S64x512.size a) ∧
  (∀ a x, ((![v194, v131] : Fin 2 → IVec S16 32) a x).toNat < S64x512.size a) ∧
  (∀ a x, ((![v194, v132] : Fin 2 → IVec S16 32) a x).toNat < S64x512.size a) ∧
  (∀ a x, ((![v194, v133] : Fin 2 → IVec S16 32) a x).toNat < S64x512.size a) ∧
  (∀ a x, ((![v194, v134] : Fin 2 → IVec S16 32) a x).toNat < S64x512.size a) ∧
  (∀ a x, ((![v194, v135] : Fin 2 → IVec S16 32) a x).toNat < S64x512.size a) ∧
  (∀ a x, ((![v194, v136] : Fin 2 → IVec S16 32) a x).toNat < S64x512.size a) ∧
  (∀ a x, ((![v194, v137] : Fin 2 → IVec S16 32) a x).toNat < S64x512.size a) ∧
  (∀ a x, ((![v194, v138] : Fin 2 → IVec S16 32) a x).toNat < S64x512.size a) ∧
  (∀ a x, ((![v194, v139] : Fin 2 → IVec S16 32) a x).toNat < S64x512.size a) ∧
  (∀ a x, ((![v194, v140] : Fin 2 → IVec S16 32) a x).toNat < S64x512.size a) ∧
  (∀ a x, ((![v194, v141] : Fin 2 → IVec S16 32) a x).toNat < S64x512.size a) ∧
  (∀ a x, ((![v194, v142] : Fin 2 → IVec S16 32) a x).toNat < S64x512.size a) ∧
  (∀ a x, ((![v194, v143] : Fin 2 → IVec S16 32) a x).toNat < S64x512.size a)
theorem k0_idx65_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v112] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.1
theorem k0_idx66_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v113] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.1
theorem k0_idx67_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v114] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.1
theorem k0_idx68_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v115] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.1
theorem k0_idx69_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v116] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.1
theorem k0_idx70_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v117] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.1
theorem k0_idx71_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v118] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.1
theorem k0_idx72_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v119] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.1
theorem k0_idx73_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v120] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.1
theorem k0_idx74_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v121] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.1
theorem k0_idx75_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v122] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.1
theorem k0_idx76_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v123] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.1
theorem k0_idx77_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v124] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.1
theorem k0_idx78_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v125] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.1
theorem k0_idx79_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v126] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.1
theorem k0_idx80_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v127] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.1
theorem k0_idx81_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v128] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.1
theorem k0_idx82_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v129] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.2.1
theorem k0_idx83_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v130] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.2.2.1
theorem k0_idx84_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v131] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.2.2.2.1
theorem k0_idx85_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v132] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.2.2.2.2.1
theorem k0_idx86_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v133] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.2.2.2.2.2.1
theorem k0_idx87_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v134] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.2.2.2.2.2.2.1
theorem k0_idx88_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v135] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.2.2.2.2.2.2.2.1
theorem k0_idx89_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v136] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.2.2.2.2.2.2.2.2.1
theorem k0_idx90_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v137] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.2.2.2.2.2.2.2.2.2.1
theorem k0_idx91_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v138] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.2.2.2.2.2.2.2.2.2.2.1
theorem k0_idx92_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v139] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.2.2.2.2.2.2.2.2.2.2.2.1
theorem k0_idx93_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v140] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.2.2.2.2.2.2.2.2.2.2.2.2.1
theorem k0_idx94_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v141] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.2.2.2.2.2.2.2.2.2.2.2.2.2.1
theorem k0_idx95_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v142] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.2.2.2.2.2.2.2.2.2.2.2.2.2.2.1
theorem k0_idx96_inb : ∀ (v112 : IVec S16 32) (v113 : IVec S16 32) (v114 : IVec S16 32) (v115 : IVec S16 32) (v116 : IVec S16 32) (v117 : IVec S16 32) (v118 : IVec S16 32) (v119 : IVec S16 32) (v120 : IVec S16 32) (v121 : IVec S16 32) (v122 : IVec S16 32) (v123 : IVec S16 32) (v124 : IVec S16 32) (v125 : IVec S16 32) (v126 : IVec S16 32) (v127 : IVec S16 32) (v128 : IVec S16 32) (v129 : IVec S16 32) (v130 : IVec S16 32) (v131 : IVec S16 32) (v132 : IVec S16 32) (v133 : IVec S16 32) (v134 : IVec S16 32) (v135 : IVec S16 32) (v136 : IVec S16 32) (v137 : IVec S16 32) (v138 : IVec S16 32) (v139 : IVec S16 32) (v140 : IVec S16 32) (v141 : IVec S16 32) (v142 : IVec S16 32) (v143 : IVec S16 32) (v194 : IVec S16 32) (k0_hw3 : k0_chk3 v112 v113 v114 v115 v116 v117 v118 v119 v120 v121 v122 v123 v124 v125 v126 v127 v128 v129 v130 v131 v132 v133 v134 v135 v136 v137 v138 v139 v140 v141 v142 v143 v194), ∀ a x, ((![v194, v143] : Fin 2 → IVec S16 32) a x).toNat < S64x512.size a := fun v112 v113 v114 v115 v116 v117 v118 v119 v120 v121 v122 v123 v124 v125 v126 v127 v128 v129 v130 v131 v132 v133 v134 v135 v136 v137 v138 v139 v140 v141 v142 v143 v194 k0_hw3 => k0_hw3.2.2.2.2.2.2.2.2.2.2.2.2.2.2.2.2.2.2.2.2.2.2.2.2.2.2.2.2.2.2.2
def k0_off101 (k0_t4 : Fin k0_t4_loop.trips) : Fin 2 → Nat :=
  let c0_i32_166 : BitVec 32 := 0#32
  let c0_i32_115 : BitVec 32 := 0#32
  let c1_i32_117 : BitVec 32 := 1#32
  let arg15 : BitVec 32 := Scf.iv c0_i32_115 c1_i32_117 k0_t4
  let c1_i32_165 : BitVec 32 := 1#32
  let v191 : BitVec 32 := Scalar.muli arg15 c1_i32_165
  let v192 : BitVec 32 := Scalar.addi c0_i32_166 v191
  let v289 : Index := Scalar.indexCast v192
  let c496_199 : Index := 496#32
  ![v289.toNat, 496]
def k0_off102 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c2_i32_72 : BitVec 32 := 2#32
  let c0_i32_3 : BitVec 32 := 0#32
  let c1_i32 : BitVec 32 := 1#32
  let arg14 : BitVec 32 := Scf.iv c0_i32_3 c1_i32 k0_t1
  let v101 : BitVec 32 := Scalar.muli c2_i32_72 arg14
  let c1_i32_73 : BitVec 32 := 1#32
  let v102 : BitVec 32 := Scalar.addi v101 c1_i32_73
  let c64_i32_119 : BitVec 32 := 64#32
  let v145 : BitVec 32 := Scalar.muli v102 c64_i32_119
  let v146 : BitVec 32 := Scalar.addi v2 v145
  let c0_i32_120 : BitVec 32 := 0#32
  let v147 : BitVec 32 := Scalar.addi v146 c0_i32_120
  let c0_i32_121 : BitVec 32 := 0#32
  ![v147.toNat, 0]
@[reducible] def k0_t5_loop : Scf.Loop 32 :=
  let c0_i32_157 : BitVec 32 := 0#32
  let c32_i32_158 : BitVec 32 := 32#32
  let v185 : BitVec 32 := Scalar.addi c0_i32_157 c32_i32_158
  let c1_i32_159 : BitVec 32 := 1#32
  ⟨c0_i32_157, v185, c1_i32_159⟩
def k0_off103 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v196 : Index := Scalar.indexCast v192
  let c0_168 : Index := 0#32
  ![v196.toNat, 0]
def k0_off104 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v199 : Index := Scalar.indexCast v192
  let c16_169 : Index := 16#32
  ![v199.toNat, 16]
def k0_off105 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v202 : Index := Scalar.indexCast v192
  let c32_170 : Index := 32#32
  ![v202.toNat, 32]
def k0_off106 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v205 : Index := Scalar.indexCast v192
  let c48_171 : Index := 48#32
  ![v205.toNat, 48]
def k0_off107 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v208 : Index := Scalar.indexCast v192
  let c64_172 : Index := 64#32
  ![v208.toNat, 64]
def k0_off108 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v211 : Index := Scalar.indexCast v192
  let c80_173 : Index := 80#32
  ![v211.toNat, 80]
def k0_off109 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v214 : Index := Scalar.indexCast v192
  let c96_174 : Index := 96#32
  ![v214.toNat, 96]
def k0_off110 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v217 : Index := Scalar.indexCast v192
  let c112_175 : Index := 112#32
  ![v217.toNat, 112]
def k0_off111 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v220 : Index := Scalar.indexCast v192
  let c128_176 : Index := 128#32
  ![v220.toNat, 128]
def k0_off112 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v223 : Index := Scalar.indexCast v192
  let c144_177 : Index := 144#32
  ![v223.toNat, 144]
def k0_off113 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v226 : Index := Scalar.indexCast v192
  let c160_178 : Index := 160#32
  ![v226.toNat, 160]
def k0_off114 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v229 : Index := Scalar.indexCast v192
  let c176_179 : Index := 176#32
  ![v229.toNat, 176]
def k0_off115 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v232 : Index := Scalar.indexCast v192
  let c192_180 : Index := 192#32
  ![v232.toNat, 192]
def k0_off116 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v235 : Index := Scalar.indexCast v192
  let c208_181 : Index := 208#32
  ![v235.toNat, 208]
def k0_off117 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v238 : Index := Scalar.indexCast v192
  let c224_182 : Index := 224#32
  ![v238.toNat, 224]
def k0_off118 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v241 : Index := Scalar.indexCast v192
  let c240_183 : Index := 240#32
  ![v241.toNat, 240]
def k0_off119 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v244 : Index := Scalar.indexCast v192
  let c256_184 : Index := 256#32
  ![v244.toNat, 256]
def k0_off120 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v247 : Index := Scalar.indexCast v192
  let c272_185 : Index := 272#32
  ![v247.toNat, 272]
def k0_off121 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v250 : Index := Scalar.indexCast v192
  let c288_186 : Index := 288#32
  ![v250.toNat, 288]
def k0_off122 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v253 : Index := Scalar.indexCast v192
  let c304_187 : Index := 304#32
  ![v253.toNat, 304]
def k0_off123 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v256 : Index := Scalar.indexCast v192
  let c320_188 : Index := 320#32
  ![v256.toNat, 320]
def k0_off124 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v259 : Index := Scalar.indexCast v192
  let c336_189 : Index := 336#32
  ![v259.toNat, 336]
def k0_off125 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v262 : Index := Scalar.indexCast v192
  let c352_190 : Index := 352#32
  ![v262.toNat, 352]
def k0_off126 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v265 : Index := Scalar.indexCast v192
  let c368_191 : Index := 368#32
  ![v265.toNat, 368]
def k0_off127 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v268 : Index := Scalar.indexCast v192
  let c384_192 : Index := 384#32
  ![v268.toNat, 384]
def k0_off128 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v271 : Index := Scalar.indexCast v192
  let c400_193 : Index := 400#32
  ![v271.toNat, 400]
def k0_off129 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v274 : Index := Scalar.indexCast v192
  let c416_194 : Index := 416#32
  ![v274.toNat, 416]
def k0_off130 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v277 : Index := Scalar.indexCast v192
  let c432_195 : Index := 432#32
  ![v277.toNat, 432]
def k0_off131 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v280 : Index := Scalar.indexCast v192
  let c448_196 : Index := 448#32
  ![v280.toNat, 448]
def k0_off132 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v283 : Index := Scalar.indexCast v192
  let c464_197 : Index := 464#32
  ![v283.toNat, 464]
def k0_off133 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v286 : Index := Scalar.indexCast v192
  let c480_198 : Index := 480#32
  ![v286.toNat, 480]

def k0_chk4 (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) : Prop :=
  (∀ a x, ((![v194, v153] : Fin 2 → IVec S16 32) a x).toNat < S64x512.size a) ∧
  (∀ a x, ((![v194, v154] : Fin 2 → IVec S16 32) a x).toNat < S64x512.size a) ∧
  (∀ a x, ((![v194, v155] : Fin 2 → IVec S16 32) a x).toNat < S64x512.size a) ∧
  (∀ a x, ((![v194, v156] : Fin 2 → IVec S16 32) a x).toNat < S64x512.size a) ∧
  (∀ a x, ((![v194, v157] : Fin 2 → IVec S16 32) a x).toNat < S64x512.size a) ∧
  (∀ a x, ((![v194, v158] : Fin 2 → IVec S16 32) a x).toNat < S64x512.size a) ∧
  (∀ a x, ((![v194, v159] : Fin 2 → IVec S16 32) a x).toNat < S64x512.size a) ∧
  (∀ a x, ((![v194, v160] : Fin 2 → IVec S16 32) a x).toNat < S64x512.size a) ∧
  (∀ a x, ((![v194, v161] : Fin 2 → IVec S16 32) a x).toNat < S64x512.size a) ∧
  (∀ a x, ((![v194, v162] : Fin 2 → IVec S16 32) a x).toNat < S64x512.size a) ∧
  (∀ a x, ((![v194, v163] : Fin 2 → IVec S16 32) a x).toNat < S64x512.size a) ∧
  (∀ a x, ((![v194, v164] : Fin 2 → IVec S16 32) a x).toNat < S64x512.size a) ∧
  (∀ a x, ((![v194, v165] : Fin 2 → IVec S16 32) a x).toNat < S64x512.size a) ∧
  (∀ a x, ((![v194, v166] : Fin 2 → IVec S16 32) a x).toNat < S64x512.size a) ∧
  (∀ a x, ((![v194, v167] : Fin 2 → IVec S16 32) a x).toNat < S64x512.size a) ∧
  (∀ a x, ((![v194, v168] : Fin 2 → IVec S16 32) a x).toNat < S64x512.size a) ∧
  (∀ a x, ((![v194, v169] : Fin 2 → IVec S16 32) a x).toNat < S64x512.size a) ∧
  (∀ a x, ((![v194, v170] : Fin 2 → IVec S16 32) a x).toNat < S64x512.size a) ∧
  (∀ a x, ((![v194, v171] : Fin 2 → IVec S16 32) a x).toNat < S64x512.size a) ∧
  (∀ a x, ((![v194, v172] : Fin 2 → IVec S16 32) a x).toNat < S64x512.size a) ∧
  (∀ a x, ((![v194, v173] : Fin 2 → IVec S16 32) a x).toNat < S64x512.size a) ∧
  (∀ a x, ((![v194, v174] : Fin 2 → IVec S16 32) a x).toNat < S64x512.size a) ∧
  (∀ a x, ((![v194, v175] : Fin 2 → IVec S16 32) a x).toNat < S64x512.size a) ∧
  (∀ a x, ((![v194, v176] : Fin 2 → IVec S16 32) a x).toNat < S64x512.size a) ∧
  (∀ a x, ((![v194, v177] : Fin 2 → IVec S16 32) a x).toNat < S64x512.size a) ∧
  (∀ a x, ((![v194, v178] : Fin 2 → IVec S16 32) a x).toNat < S64x512.size a) ∧
  (∀ a x, ((![v194, v179] : Fin 2 → IVec S16 32) a x).toNat < S64x512.size a) ∧
  (∀ a x, ((![v194, v180] : Fin 2 → IVec S16 32) a x).toNat < S64x512.size a) ∧
  (∀ a x, ((![v194, v181] : Fin 2 → IVec S16 32) a x).toNat < S64x512.size a) ∧
  (∀ a x, ((![v194, v182] : Fin 2 → IVec S16 32) a x).toNat < S64x512.size a) ∧
  (∀ a x, ((![v194, v183] : Fin 2 → IVec S16 32) a x).toNat < S64x512.size a) ∧
  (∀ a x, ((![v194, v184] : Fin 2 → IVec S16 32) a x).toNat < S64x512.size a)
theorem k0_idx97_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v153] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.1
theorem k0_idx98_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v154] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.1
theorem k0_idx99_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v155] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.1
theorem k0_idx100_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v156] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.1
theorem k0_idx101_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v157] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.1
theorem k0_idx102_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v158] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.1
theorem k0_idx103_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v159] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.1
theorem k0_idx104_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v160] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.1
theorem k0_idx105_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v161] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.1
theorem k0_idx106_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v162] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.1
theorem k0_idx107_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v163] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.1
theorem k0_idx108_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v164] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.1
theorem k0_idx109_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v165] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.1
theorem k0_idx110_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v166] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.1
theorem k0_idx111_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v167] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.1
theorem k0_idx112_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v168] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.1
theorem k0_idx113_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v169] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.1
theorem k0_idx114_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v170] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.2.1
theorem k0_idx115_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v171] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.2.2.1
theorem k0_idx116_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v172] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.2.2.2.1
theorem k0_idx117_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v173] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.2.2.2.2.1
theorem k0_idx118_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v174] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.2.2.2.2.2.1
theorem k0_idx119_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v175] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.2.2.2.2.2.2.1
theorem k0_idx120_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v176] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.2.2.2.2.2.2.2.1
theorem k0_idx121_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v177] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.2.2.2.2.2.2.2.2.1
theorem k0_idx122_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v178] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.2.2.2.2.2.2.2.2.2.1
theorem k0_idx123_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v179] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.2.2.2.2.2.2.2.2.2.2.1
theorem k0_idx124_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v180] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.2.2.2.2.2.2.2.2.2.2.2.1
theorem k0_idx125_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v181] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.2.2.2.2.2.2.2.2.2.2.2.2.1
theorem k0_idx126_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v182] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.2.2.2.2.2.2.2.2.2.2.2.2.2.1
theorem k0_idx127_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v183] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.2.2.2.2.2.2.2.2.2.2.2.2.2.2.1
theorem k0_idx128_inb : ∀ (v153 : IVec S16 32) (v154 : IVec S16 32) (v155 : IVec S16 32) (v156 : IVec S16 32) (v157 : IVec S16 32) (v158 : IVec S16 32) (v159 : IVec S16 32) (v160 : IVec S16 32) (v161 : IVec S16 32) (v162 : IVec S16 32) (v163 : IVec S16 32) (v164 : IVec S16 32) (v165 : IVec S16 32) (v166 : IVec S16 32) (v167 : IVec S16 32) (v168 : IVec S16 32) (v169 : IVec S16 32) (v170 : IVec S16 32) (v171 : IVec S16 32) (v172 : IVec S16 32) (v173 : IVec S16 32) (v174 : IVec S16 32) (v175 : IVec S16 32) (v176 : IVec S16 32) (v177 : IVec S16 32) (v178 : IVec S16 32) (v179 : IVec S16 32) (v180 : IVec S16 32) (v181 : IVec S16 32) (v182 : IVec S16 32) (v183 : IVec S16 32) (v184 : IVec S16 32) (v194 : IVec S16 32) (k0_hw4 : k0_chk4 v153 v154 v155 v156 v157 v158 v159 v160 v161 v162 v163 v164 v165 v166 v167 v168 v169 v170 v171 v172 v173 v174 v175 v176 v177 v178 v179 v180 v181 v182 v183 v184 v194), ∀ a x, ((![v194, v184] : Fin 2 → IVec S16 32) a x).toNat < S64x512.size a := fun v153 v154 v155 v156 v157 v158 v159 v160 v161 v162 v163 v164 v165 v166 v167 v168 v169 v170 v171 v172 v173 v174 v175 v176 v177 v178 v179 v180 v181 v182 v183 v184 v194 k0_hw4 => k0_hw4.2.2.2.2.2.2.2.2.2.2.2.2.2.2.2.2.2.2.2.2.2.2.2.2.2.2.2.2.2.2.2
def k0_off134 (k0_t5 : Fin k0_t5_loop.trips) : Fin 2 → Nat :=
  let c0_i32_166 : BitVec 32 := 0#32
  let c0_i32_157 : BitVec 32 := 0#32
  let c1_i32_159 : BitVec 32 := 1#32
  let arg15 : BitVec 32 := Scf.iv c0_i32_157 c1_i32_159 k0_t5
  let c1_i32_165 : BitVec 32 := 1#32
  let v191 : BitVec 32 := Scalar.muli arg15 c1_i32_165
  let v192 : BitVec 32 := Scalar.addi c0_i32_166 v191
  let v289 : Index := Scalar.indexCast v192
  let c496_199 : Index := 496#32
  ![v289.toNat, 496]
def k0_off135 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c2_i32_72 : BitVec 32 := 2#32
  let c0_i32_3 : BitVec 32 := 0#32
  let c1_i32 : BitVec 32 := 1#32
  let arg14 : BitVec 32 := Scf.iv c0_i32_3 c1_i32 k0_t1
  let v101 : BitVec 32 := Scalar.muli c2_i32_72 arg14
  let c1_i32_73 : BitVec 32 := 1#32
  let v102 : BitVec 32 := Scalar.addi v101 c1_i32_73
  let c64_i32_161 : BitVec 32 := 64#32
  let v186 : BitVec 32 := Scalar.muli v102 c64_i32_161
  let v187 : BitVec 32 := Scalar.addi v2 v186
  let c32_i32_162 : BitVec 32 := 32#32
  let v188 : BitVec 32 := Scalar.addi v187 c32_i32_162
  let c0_i32_163 : BitVec 32 := 0#32
  ![v188.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S65536x512 : Shape := ⟨2, ![65536, 512]⟩
abbrev S512 : Shape := ⟨1, ![512]⟩
abbrev S_ : Shape := ⟨0, ![]⟩
abbrev S512x1 : Shape := ⟨2, ![512, 1]⟩

abbrev nBuf : Space → Nat
  | .hbm => 11
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512, .i32⟩
  | .hbm, ⟨2, _⟩ => ⟨S_, .i32⟩
  | .hbm, ⟨3, _⟩ => ⟨S512, .i32⟩
  | .hbm, ⟨4, _⟩ => ⟨S512, .i1⟩
  | .hbm, ⟨5, _⟩ => ⟨S_, .i32⟩
  | .hbm, ⟨6, _⟩ => ⟨S512, .i32⟩
  | .hbm, ⟨7, _⟩ => ⟨S512, .i32⟩
  | .hbm, ⟨8, _⟩ => ⟨S512, .i32⟩
  | .hbm, ⟨9, _⟩ => ⟨S512x1, .i32⟩
  | .hbm, ⟨10, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Rows.lean ====
module

public import proofs.«01_k».proof.Proof.Gen.KernelIdeal
public import proofs.«01_k».proof.Proof.Gen.KernelIdeal.Skeleton

@[expose] public section

noncomputable section

namespace Cert.Proof.Rows

open Cert.KernelIdeal Cert.KernelIdeal.Gen
open Idealize.ShloMosaic Idealize.SL.Sem

variable {F : FTy → Type} [FloatOps F]

/-! ## The pieces of a tile's work -/

/-- A program of the vector subcore at grid point `i`. -/
abbrev TP (F : FTy → Type) [FloatOps F] (i : grid0.Coords) (α : Type) : Type 1 :=
  Prog (TpuEff nD τ sig (Elt F) Λ₀ (.scVector ((i 0).castLE hcore0) ((i 1).castLE hsub0))) α

abbrev Big : Type := Memref sig .scVector .hbm S65536x512 .f32
abbrev InBuf : Type := Memref sig .scVector .vmem S64x512 .f32
abbrev OutBuf : Type := Memref sig .scVector .vmem S32x512 .f32
abbrev PermBuf : Type := Memref sig .scVector .vmem S512 .i32

/-- The thirty-two column groups of a row, in the order the kernel takes them. -/
def groups : List (Fin 32) :=
  [0, 1, 2, 3, 4, 5, 6, 7, 8, 9, 10, 11, 12, 13, 14, 15, 16, 17, 18, 19, 20, 21, 22, 23, 24, 25, 26, 27, 28, 29, 30, 31]

/-- The row of the half-buffer that trip `t` of an inner loop writes, as the kernel computes it. -/
def rowWord (t : Fin k0_t2_loop.trips) : BitVec 32 := Scalar.addi 0#32 (Scalar.muli (Scf.iv 0#32 1#32 t) 1#32)

/-- The row of the input buffer it reads, `base` rows further down. -/
def srcRow (base : BitVec 32) (t : Fin k0_t2_loop.trips) : IVec S16 32 := broadcast S16 (Scalar.addi base (rowWord t))

/-- Where the column group `k` of that row is stored. -/
def colOff (t : Fin k0_t2_loop.trips) (k : Fin 32) : Fin 2 → Nat := ![(Scalar.indexCast (rowWord t) : Index).toNat, 16 * k.val]

theorem rowWord_toNat : ∀ t : Fin k0_t2_loop.trips, (Scalar.indexCast (rowWord t) : Index).toNat = t.val := by decide +kernel

theorem colOff_inb (t : Fin k0_t2_loop.trips) (k : Fin 32) (a : Fin 2) : colOff t k a + S1x16.size a ≤ S32x512.size a := by
  have ht : t.val < 32 := t.isLt
  have hk := k.isLt
  unfold colOff; rw [rowWord_toNat]
  fin_cases a <;> simp <;> omega

/-- The indices of a row's thirty-two gathers name elements of the input buffer. -/
def RowChk (row : IVec S16 32) (idx : Fin 32 → IVec S16 32) : Prop :=
  k0_chk1 (idx 0) (idx 1) (idx 2) (idx 3) (idx 4) (idx 5) (idx 6) (idx 7) (idx 8) (idx 9) (idx 10) (idx 11) (idx 12) (idx 13) (idx 14) (idx 15) (idx 16) (idx 17) (idx 18) (idx 19) (idx 20) (idx 21) (idx 22) (idx 23) (idx 24) (idx 25) (idx 26) (idx 27) (idx 28) (idx 29) (idx 30) (idx 31) row

theorem RowChk.inb {row : IVec S16 32} {idx : Fin 32 → IVec S16 32} (h : RowChk row idx) (k : Fin 32) :
    ∀ a x, ((![row, idx k] : Fin 2 → IVec S16 32) a x).toNat < S64x512.size a := by
  unfold RowChk k0_chk1 at h
  obtain ⟨h0, h1, h2, h3, h4, h5, h6, h7, h8, h9, h10, h11, h12, h13, h14, h15, h16, h17, h18, h19, h20, h21, h22, h23, h24, h25, h26, h27, h28, h29, h30, h31⟩ := h
  fin_cases k <;> assumption

theorem RowChk.intro {row : IVec S16 32} {idx : Fin 32 → IVec S16 32}
    (h : ∀ k a x, ((![row, idx k] : Fin 2 → IVec S16 32) a x).toNat < S64x512.size a) : RowChk row idx := by
  unfold RowChk k0_chk1
  exact ⟨h 0, h 1, h 2, h 3, h 4, h 5, h 6, h 7, h 8, h 9, h 10, h 11, h 12, h 13, h 14, h 15, h 16, h 17, h 18, h 19, h 20, h 21, h 22, h 23, h 24, h 25, h 26, h 27, h 28, h 29, h 30, h 31⟩

/-- The check is decided group by group. -/
def RowChk.dec (row : IVec S16 32) (idx : Fin 32 → IVec S16 32) : Decidable (RowChk row idx) :=
  k0_chk1.dec (idx 0) (idx 1) (idx 2) (idx 3) (idx 4) (idx 5) (idx 6) (idx 7) (idx 8) (idx 9) (idx 10) (idx 11) (idx 12) (idx 13) (idx 14) (idx 15) (idx 16) (idx 17) (idx 18) (idx 19) (idx 20) (idx 21) (idx 22) (idx 23) (idx 24) (idx 25) (idx 26) (idx 27) (idx 28) (idx 29) (idx 30) (idx 31) row

/-- The column groups of one row, copied one after another. -/
def rowFrom (i : grid0.Coords) (src : InBuf) (dst : OutBuf) (t : Fin k0_t2_loop.trips) (row : IVec S16 32) (idx : Fin 32 → IVec S16 32)
    (h : RowChk row idx) : List (Fin 32) → TP F i Unit
  | [] => pure ⟨⟩
  | k :: ks => do
    let v : Vec F S16 .f32 ← SparseCore.vectorLoadIdx src ![row, idx k] (h.inb k) (View.loads_vmem h_S64x512)
    let _ ← Prog.lift (.load dst (Rect.unit (s := S32x512) (colOff t k) S1x16.size (colOff_inb t k)).toLoadRect (View.loadsAt_vmem h_S1x16))
    Prog.lift (.store dst (Rect.unit (s := S32x512) (colOff t k) S1x16.size (colOff_inb t k)) (shapeCast S1x16 v shapeCasts_S16_S1x16)
      Finset.univ (View.stores_vmem_bits_univ h_S1x16 rfl) (.inl rfl))
    rowFrom i src dst t row idx h ks

/-- One row: the check of its indices, then its column groups. -/
def rowProg (i : grid0.Coords) (src : InBuf) (dst : OutBuf) (base : BitVec 32) (idx : Fin 32 → IVec S16 32)
    (t : Fin k0_t2_loop.trips) : TP F i Unit := do
  let w ← Prog.lift (.assume (RowChk (srcRow base t) idx) (RowChk.dec (srcRow base t) idx))
  rowFrom i src dst t (srcRow base t) idx w.down groups

theorem permOff_inb (k : Fin 32) (a : Fin 1) : (![16 * k.val] : Fin 1 → Nat) a + S16.size a ≤ S512.size a := by
  have hk := k.isLt
  fin_cases a; simp; omega

/-- Vectors of the permutation loaded in turn: those of the list, the last one loaded first in `acc`; the program goes on
    at all of them. -/
def loadsFrom {α : Type} (i : grid0.Coords) (p : PermBuf) (k : List (IVec S16 32) → TP F i α) : List (Fin 32) → List (IVec S16 32) → TP F i α
  | [], acc => k acc
  | n :: ns, acc =>
    Prog.lift (.load p (Rect.unit (s := S512) ![16 * n.val] S16.size (permOff_inb n)).toLoadRect (View.loadsAt_vmem h_S16)) >>= fun (v : Vec F S16 .i32) =>
    loadsFrom i p k ns (v :: acc)

/-- The vectors loaded, in order, from the list that has the last one first. -/
def permVecs (acc : List (IVec S16 32)) (n : Fin 32) : IVec S16 32 := acc.getD (31 - n.val) (fun _ => 0#32)

/-- Wait for a half-buffer's copy out when the word `n` counts at least one chunk. -/
def waitOut (i : grid0.Coords) (out : Big) (dst : OutBuf) (hdst : dst.IsWhole) (sem : DmaSems sig S_) (n : BitVec 32) : TP F i Unit :=
  if _h : (Scalar.cmpi .ne (Scalar.extui (Scalar.cmpi .sge n 1#32) : BitVec 32) 0#32 : BitVec 1) = 1#1 then do
    Prog.lift (.waitDma2 sem.sem dst (out.slice (Rect.unit (s := S65536x512) ![0, 0] S32x512.size inb_S65536x512_S32x512_0_0) (fun _ => rfl)) hdst.wordExact (View.wordExact_bits rfl))
    pure ⟨⟩
  else do
    pure ⟨⟩

/-- Half a chunk: the half-buffer free, the permutation loaded, its thirty-two rows copied, its copy out started; the
    program goes on at `k`. -/
def half (i : grid0.Coords) (p : PermBuf) (out : Big) (src : InBuf) (dst : OutBuf) (hdst : dst.IsWhole) (sem : DmaSems sig S_) (n base : BitVec 32)
    (off : Fin 2 → Nat) (hoff : ∀ a, off a + S32x512.size a ≤ S65536x512.size a) (k : TP F i Unit) : TP F i Unit :=
  waitOut i out dst hdst sem n >>= fun _ =>
  loadsFrom i p (fun acc =>
    Scf.Loop.for k0_t2_loop k0_t2_ok ⟨⟩ (fun t _ => rowProg i src dst base (permVecs acc) t) >>= fun _ =>
    Prog.lift (.enqueueDma dst (.here (out.slice (Rect.unit (s := S65536x512) off S32x512.size hoff) (fun _ => rfl))) (.dma sem.sem) hdst.wordExact
      (View.wordExact_bits rfl) ⟨Or.inl rfl, trivial⟩) >>= fun _ =>
    k) groups []

/-- Start the fetch of the next chunk when the word `b` says there is one. -/
def fetchNext (i : grid0.Coords) (x : Big) (nxt : InBuf) (hnxt : nxt.IsWhole) (sem : DmaSems sig S_) (b : BitVec 1)
    (off : Fin 2 → Nat) (hoff : b = 1#1 → ∀ a, off a + S64x512.size a ≤ S65536x512.size a) : TP F i Unit :=
  if h : b = 1#1 then do
    Prog.lift (.enqueueDma (x.slice (Rect.unit (s := S65536x512) off S64x512.size (hoff h)) (fun _ => rfl)) (.here nxt) (.dma sem.sem) (View.wordExact_bits rfl) hnxt.wordExact ⟨Or.inl rfl, trivial⟩)
    pure ⟨⟩
  else do
    pure ⟨⟩

/-- Wait for a chunk's fetch. -/
def waitIn (i : grid0.Coords) (x : Big) (src : InBuf) (hsrc : src.IsWhole) (sem : DmaSems sig S_) : TP F i PUnit :=
  Prog.lift (.waitDma2 sem.sem (x.slice (Rect.unit (s := S65536x512) ![0, 0] S64x512.size inb_S65536x512_S64x512_0_0) (fun _ => rfl)) src (View.wordExact_bits rfl) hsrc.wordExact)

/-- The number of the first and of the second chunk of trip `t`, as the kernel computes them. -/
def chunkA (t : Fin k0_t1_loop.trips) : BitVec 32 := Scalar.addi (Scalar.muli 2#32 (Scf.iv 0#32 1#32 t)) 0#32
def chunkB (t : Fin k0_t1_loop.trips) : BitVec 32 := Scalar.addi (Scalar.muli 2#32 (Scf.iv 0#32 1#32 t)) 1#32

/-- A trip of the outer loop: two chunks, each in two halves. -/
def trip (i : grid0.Coords) (arg2 : Memref sig .scVector .hbm S65536x512 .f32) (arg4 : Memref sig .scVector .hbm S65536x512 .f32) (arg5 : Memref sig .scVector .vmem S512 .i32) (arg6 : Memref sig .scVector .vmem S64x512 .f32) (harg6 : arg6.IsWhole) (arg7 : Memref sig .scVector .vmem S64x512 .f32) (harg7 : arg7.IsWhole) (arg8 : Memref sig .scVector .vmem S32x512 .f32) (harg8 : arg8.IsWhole) (arg9 : Memref sig .scVector .vmem S32x512 .f32) (harg9 : arg9.IsWhole) (arg10 : DmaSems sig S_) (arg11 : DmaSems sig S_) (arg12 : DmaSems sig S_) (arg13 : DmaSems sig S_) (t : Fin k0_t1_loop.trips) : TP F i Unit :=
  waitIn i arg2 arg6 harg6 arg10 >>= fun _ =>
  fetchNext i arg2 arg7 harg7 arg11 (k0_cond1 t) (k0_off2 i t) (k0_off2_inb i t) >>= fun _ =>
  half i arg5 arg4 arg6 arg8 harg8 arg12 (chunkA t) 0#32 (k0_off35 i t) (k0_off35_inb i t) <|
  half i arg5 arg4 arg6 arg9 harg9 arg13 (chunkA t) 32#32 (k0_off68 i t) (k0_off68_inb i t) <|
  waitIn i arg2 arg7 harg7 arg11 >>= fun _ =>
  fetchNext i arg2 arg6 harg6 arg10 (k0_cond4 t) (k0_off69 i t) (k0_off69_inb i t) >>= fun _ =>
  half i arg5 arg4 arg7 arg8 harg8 arg12 (chunkB t) 0#32 (k0_off102 i t) (k0_off102_inb i t) <|
  half i arg5 arg4 arg7 arg9 harg9 arg13 (chunkB t) 32#32 (k0_off135 i t) (k0_off135_inb i t) <|
  pure ⟨⟩

end Cert.Proof.Rows

end
-- ==== Proof.Setup.lean ====
module

public import proofs.«01_k».proof.Defs
public import proofs.«01_k».proof.Proof.Rows
public import Idealize.ShloMosaic.Lib.SparseCore.Quiescent
public import Idealize.ShloMosaic.Lib.SparseCore.Ops
public import Idealize.ShloMosaic.Lib.Transfers
public import Idealize.ShloMosaic.Lib.Pipeline.Kit
public import Idealize.ShloMosaic.Lib.Pipeline.Value
public import Idealize.ShloMosaic.Lib.StableHlo.Run
public import Idealize.ShloMosaic.Lib.Tactic

@[expose] public section

noncomputable section

namespace Cert.Proof.Permute

open Cert.KernelIdeal Cert.KernelIdeal.Gen Cert.Proof.Rows

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The launch's configuration and its resources -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The rounds of the handshakes, beside the counters of the copies. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## A tile's thread and its operands -/

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev xV : Big := Memref.whole main_arg0_scv
abbrev oV : Big := Memref.whole main_v0_scv
abbrev sP : PermBuf := Memref.whole cc0_scratch0

/-- The arguments and the result as locations of device `d`. -/
abbrev xLoc (d : Dev nD) : Loc nD τ sig := (SparseCore.T d).loc main_arg0
abbrev pLoc (d : Dev nD) : Loc nD τ sig := (SparseCore.T d).loc main_arg1
abbrev oLoc (d : Dev nD) : Loc nD τ sig := (SparseCore.T d).loc main_v0

/-- The program run by the tile `L` of device `d`, against a postcondition. -/
abbrev WP [FloatOps F] {α : Type} (d : Dev nD) (L : grid0.Coords) (prog : TP F L α) (Q : α → sProp 𝕄) : sProp 𝕄 :=
  wp frame (wpE (defs₀ (F := F)) 𝒱₀ (thr d L) none) Set.univ prog Q

end Cert.Proof.Permute

end
-- ==== Proof.RowSpec.lean ====
module

public import proofs.«01_k».proof.Proof.Setup

@[expose] public section

noncomputable section

namespace Cert.Proof.Permute

open Cert.KernelIdeal Cert.KernelIdeal.Gen Cert.Proof.Rows

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Rows of a half-buffer -/

/-- Contents `g` of a half-buffer agree with `H` on the rows before `r` and on the columns of row `r` that lie in no
    group of `ks`. -/
def Filled (H g : S32x512.Idx → Elt F .f32) (r : ℕ) (ks : List (Fin 32)) : Prop :=
  ∀ j : S32x512.Idx, (j 0).val < r ∨ ((j 0).val = r ∧ ∀ k ∈ ks, (j 1).val / 16 ≠ k.val) → g j = H j

theorem mem_groups : ∀ n : ℕ, n < 32 → ∃ k ∈ groups, n = k.val := by
  intro n hn
  refine ⟨⟨n, hn⟩, ?_, rfl⟩
  have h : ∀ k : Fin 32, k ∈ groups := by decide
  exact h _

theorem Filled.start {H g : S32x512.Idx → Elt F .f32} {r : ℕ} (h : ∀ j : S32x512.Idx, (j 0).val < r → g j = H j) : Filled H g r groups := by
  intro j hj
  rcases hj with hj | ⟨-, hj⟩
  · exact h j hj
  · have hlt : (j 1).val < 512 := (j 1).isLt
    obtain ⟨k, hk, e⟩ := mem_groups ((j 1).val / 16) (by omega)
    exact absurd e (hj k hk)

theorem Filled.done {H g : S32x512.Idx → Elt F .f32} {r : ℕ} (h : Filled H g r []) (j : S32x512.Idx) (hj : (j 0).val < r + 1) : g j = H j := by
  refine h j ?_
  rcases Nat.lt_or_ge (j 0).val r with h1 | h1
  · exact .inl h1
  · exact .inr ⟨by omega, by simp⟩

/-- The rectangle of a column group, as the kernel spells it. -/
abbrev colRect (t : Fin k0_t2_loop.trips) (k : Fin 32) : Rect S32x512 := Rect.unit (s := S32x512) (colOff t k) S1x16.size (colOff_inb t k)

theorem colRect_emb0 (t : Fin k0_t2_loop.trips) (k : Fin 32) (x : S1x16.Idx) : ((colRect t k).emb x 0).val = t.val := by
  have h0 : (x 0).val < 1 := (x 0).isLt
  have h1 : (colOff t k 0) = t.val := rowWord_toNat t
  show colOff t k 0 + 1 * (x 0).val = _
  omega

theorem colRect_emb1 (t : Fin k0_t2_loop.trips) (k : Fin 32) (x : S1x16.Idx) : ((colRect t k).emb x 1).val = 16 * k.val + (x 1).val := by
  show colOff t k 1 + 1 * (x 1).val = _
  show 16 * k.val + 1 * (x 1).val = _
  omega

/-- A column group stored with the values of `H` is filled as well. -/
theorem Filled.store {H : S32x512.Idx → Elt F .f32} {dst : OutBuf} {f : dst.view.ty.Contents (Elt F)} {t : Fin k0_t2_loop.trips} {k : Fin 32}
    {ks : List (Fin 32)} {w : S1x16.Idx → Elt F .f32}
    (h : Filled H (dst.view.read (Elt F) f) t.val (k :: ks)) (hw : ∀ x, w x = H ((colRect t k).emb x)) :
    Filled H (dst.view.read (Elt F) ((dst.access (colRect t k)).write (Elt F) f w Finset.univ)) t.val ks := by
  intro j hj
  by_cases hm : j ∈ (Finset.univ : Finset S1x16.Idx).map (colRect t k).emb
  · obtain ⟨x, -, rfl⟩ := Finset.mem_map.mp hm
    exact (View.read_slice_write_emb (v := dst.view) (colRect t k) f w (Finset.mem_univ x)).trans (hw x)
  · refine (View.read_slice_write_of_not_mem (v := dst.view) (colRect t k) f w Finset.univ hm).trans (h j ?_)
    rcases hj with hj | ⟨hj, hks⟩
    · exact .inl hj
    · refine .inr ⟨hj, fun k' hk' => ?_⟩
      rcases List.mem_cons.mp hk' with rfl | hk'
      · intro e
        refine hm ?_
        rw [Rect.map_emb_univ, Rect.mem_set_unit]
        have h1 : colOff t k' 0 = t.val := rowWord_toNat t
        have h2 : colOff t k' 1 = 16 * k'.val := rfl
        have s0 : S1x16.size 0 = 1 := rfl
        have s1 : S1x16.size 1 = 16 := rfl
        intro a
        fin_cases a
        · show colOff t k' 0 ≤ (j 0).val ∧ (j 0).val < colOff t k' 0 + S1x16.size 0; omega
        · show colOff t k' 1 ≤ (j 1).val ∧ (j 1).val < colOff t k' 1 + S1x16.size 1; omega
      · exact hks k' hk'

variable (d : Dev nD) (L : grid0.Coords)

/-- The column groups of one row: the half-buffer holds `H` there afterwards. -/
theorem rowFrom_wp (src : InBuf) (dst : OutBuf) (t : Fin k0_t2_loop.trips) (row : IVec S16 32) (idx : Fin 32 → IVec S16 32) (h : RowChk row idx)
    (H : S32x512.Idx → Elt F .f32) (fs : Buf (Elt F) (src.view.loc (thr d L)))
    (hH : ∀ k (x : S1x16.Idx), loadIdx ((src.access (.whole S64x512)).read (Elt F) fs) ![row, idx k] (h.inb k) (fun a => x a.succ) = H ((colRect t k).emb x))
    (ks : List (Fin 32)) :
    (iprop((src.view.loc (thr d L) ↦{fullShare} fs) ∗ ∃ f, ⌜Filled H (dst.view.read (Elt F) f) t.val ks⌝ ∗ dst.view.loc (thr d L) ↦{fullShare} f) : sProp 𝕄)
      ⊢ WP d L (rowFrom L src dst t row idx h ks) fun _ =>
          iprop((src.view.loc (thr d L) ↦{fullShare} fs) ∗ ∃ f, ⌜Filled H (dst.view.read (Elt F) f) t.val []⌝ ∗ dst.view.loc (thr d L) ↦{fullShare} f) := by
  induction ks with
  | nil =>
    unfold rowFrom
    simp only [Prog.pure_eq_ret, wp_ret]
    iintro H; imodintro; iexact H
  | cons k ks ih =>
    unfold rowFrom
    simp only [Prog.lift, Prog.bind_op, Prog.bind_ret]
    iintro ⟨Hs, %f, %hf, Hd⟩
    iapply (SparseCore.wp_vectorLoadIdx 𝒱₀ (thr d L) none Set.univ (base := src) (S := Finset.univ) (q := fullShare) (Finset.subset_univ _)) $$ Hs
    iintro Hs
    iapply (wp_load 𝒱₀ (thr d L) none Set.univ (m := dst) (S := Finset.univ) (Finset.subset_univ _)) $$ Hd
    iintro Hd
    iapply (wp_store 𝒱₀ (thr d L) none Set.univ (m := dst) (r := colRect t k) (Mk := Finset.univ) (S := Finset.univ) (Finset.subset_univ _)) $$ Hd
    iintro Hd
    iapply ih
    isplitl [Hs]; · iexact Hs
    iexists _
    isplitr [Hd]
    rotate_left
    · iexact Hd
    · ipureintro
      refine hf.store fun x => ?_
      rw [← hH k x]
      exact shapeCast_addUnit_apply _ _ _ _

/-! ## Indices by their coordinates -/

def at512 (c : ℕ) : S512.Idx := fun
  | 0 => ⟨c % 512, Nat.mod_lt _ (by decide)⟩
  | ⟨_ + 1, h⟩ => absurd h (Nat.not_lt.2 (Nat.le_add_left _ _))
def at64 (r c : ℕ) : S64x512.Idx := fun
  | 0 => ⟨r % 64, Nat.mod_lt _ (by decide)⟩
  | 1 => ⟨c % 512, Nat.mod_lt _ (by decide)⟩
  | ⟨_ + 2, h⟩ => absurd h (Nat.not_lt.2 (Nat.le_add_left _ _))
def atBig (r c : ℕ) : S65536x512.Idx := fun
  | 0 => ⟨r % 65536, Nat.mod_lt _ (by decide)⟩
  | 1 => ⟨c % 512, Nat.mod_lt _ (by decide)⟩
  | ⟨_ + 2, h⟩ => absurd h (Nat.not_lt.2 (Nat.le_add_left _ _))

omit [FloatOps F] in
theorem at512_eq (j : S512.Idx) (c : ℕ) (h : (j 0).val = c) : j = at512 c := by
  funext a; obtain rfl : a = 0 := Subsingleton.elim _ _
  have hl : (j 0).val < 512 := (j 0).isLt
  refine Fin.ext ?_
  show (j 0).val = c % 512
  omega
omit [FloatOps F] in
theorem at64_eq (j : S64x512.Idx) (r c : ℕ) (h0 : (j 0).val = r) (h1 : (j 1).val = c) : j = at64 r c := by
  have hl : (j 0).val < 64 := (j 0).isLt
  have hl' : (j 1).val < 512 := (j 1).isLt
  funext a; refine Fin.ext ?_
  fin_cases a
  · show (j 0).val = r % 64; omega
  · show (j 1).val = c % 512; omega
omit [FloatOps F] in
theorem atBig_eq (j : S65536x512.Idx) (r c : ℕ) (h0 : (j 0).val = r) (h1 : (j 1).val = c) : j = atBig r c := by
  have hl : (j 0).val < 65536 := (j 0).isLt
  have hl' : (j 1).val < 512 := (j 1).isLt
  funext a; refine Fin.ext ?_
  fin_cases a
  · show (j 0).val = r % 65536; omega
  · show (j 1).val = c % 512; omega

/-- Half a chunk permuted: row `j 0` of the half-buffer is row `n + j 0` of the chunk, its columns taken by `w`. -/
def halfVal (w : S512.Idx → BitVec 32) (n : ℕ) (g : S64x512.Idx → Elt F .f32) (j : S32x512.Idx) : Elt F .f32 :=
  g (at64 (n + (j 0).val) (w (at512 (j 1).val)).toNat)

/-- The words of the permutation that the kernel loads as its vector `k`. -/
def permVec (w : S512.Idx → BitVec 32) (k : Fin 32) : IVec S16 32 := fun x => w (at512 (16 * k.val + (x 0).val))

theorem srcRow_toNat (b : BitVec 32) (hb : b = 0#32 ∨ b = 32#32) (t : Fin k0_t2_loop.trips) (x : S16.Idx) :
    (srcRow b t x).toNat = b.toNat + t.val := by
  have h0 : ∀ t : Fin k0_t2_loop.trips, (Scalar.addi 0#32 (rowWord t)).toNat = (0#32).toNat + t.val := by decide +kernel
  have h1 : ∀ t : Fin k0_t2_loop.trips, (Scalar.addi 32#32 (rowWord t)).toNat = (32#32).toNat + t.val := by decide +kernel
  rcases hb with rfl | rfl
  · exact h0 t
  · exact h1 t

theorem read_access_whole (src : InBuf) (f : src.view.ty.Contents (Elt F)) (y : S64x512.Idx) :
    (src.access (.whole S64x512)).read (Elt F) f y = src.view.read (Elt F) f y := by
  have e : (Rect.whole S64x512).emb y = y := by
    funext a; refine Fin.ext ?_
    rw [Rect.emb_apply]
    show 0 + 1 * (y a).val = (y a).val
    omega
  show src.view.read (Elt F) f ((Rect.whole S64x512).emb y) = _
  rw [e]

section Half

variable (w : S512.Idx → BitVec 32) (hw : ∀ j, (w j).toNat < 512)
include hw

omit [FloatOps F] in
theorem rowChk_of (b : BitVec 32) (hb : b = 0#32 ∨ b = 32#32) (t : Fin k0_t2_loop.trips) : RowChk (srcRow b t) (permVec w) := by
  refine RowChk.intro fun k a x => ?_
  have ht : t.val < 32 := t.isLt
  fin_cases a
  · show (srcRow b t x).toNat < 64
    rw [srcRow_toNat b hb]
    rcases hb with rfl | rfl <;> simp <;> omega
  · exact hw _

/-- One row copied: its indices are checked, then the half-buffer's row takes its values. -/
theorem rowProg_wp (src : InBuf) (dst : OutBuf) (b : BitVec 32) (hb : b = 0#32 ∨ b = 32#32) (t : Fin k0_t2_loop.trips)
    (fs : Buf (Elt F) (src.view.loc (thr d L))) :
    (iprop((src.view.loc (thr d L) ↦{fullShare} fs) ∗ ∃ f, ⌜∀ j : S32x512.Idx, (j 0).val < t.val →
          dst.view.read (Elt F) f j = halfVal w b.toNat (src.view.read (Elt F) fs) j⌝ ∗ dst.view.loc (thr d L) ↦{fullShare} f) : sProp 𝕄)
      ⊢ WP d L (rowProg L src dst b (permVec w) t) fun _ =>
          iprop((src.view.loc (thr d L) ↦{fullShare} fs) ∗ ∃ f, ⌜∀ j : S32x512.Idx, (j 0).val < t.val + 1 →
            dst.view.read (Elt F) f j = halfVal w b.toNat (src.view.read (Elt F) fs) j⌝ ∗ dst.view.loc (thr d L) ↦{fullShare} f) := by
  have hc := rowChk_of w hw b hb t
  unfold rowProg
  simp only [Prog.lift, Prog.bind_op, Prog.bind_ret]
  rw [WP, wp_assume_of _ _ _ _ hc]
  refine BIBase.Entails.trans ?_ ((rowFrom_wp d L src dst t (srcRow b t) (permVec w) hc (halfVal w b.toNat (src.view.read (Elt F) fs)) fs ?hH groups).trans
    (wp_mono frame _ _ fun _ => ?_))
  · iintro ⟨Hs, %f, %hf, Hd⟩
    isplitl [Hs]; · iexact Hs
    iexists f
    isplitr [Hd]
    · ipureintro; exact Filled.start hf
    · iexact Hd
  case hH =>
    intro k x
    have hx : (x 1).val < 16 := (x 1).isLt
    have e0 := colRect_emb0 t k x
    have e1 := colRect_emb1 t k x
    unfold loadIdx
    rw [read_access_whole]
    unfold halfVal
    refine congrArg _ (at64_eq _ _ _ ?_ ?_)
    · rw [e0]; exact srcRow_toNat b hb t (fun a => x a.succ)
    · rw [e1]; rfl
  · iintro ⟨Hs, %f, %hf, Hd⟩
    isplitl [Hs]; · iexact Hs
    iexists f
    isplitr [Hd]
    · ipureintro; exact fun j hj => hf.done j hj
    · iexact Hd

end Half

/-! ## The permutation's vectors -/

theorem permVec_readAt (w : S512.Idx → BitVec 32) (k : Fin 32) :
    sP.view.readAt (Elt F) (Rect.unit (s := S512) ![16 * k.val] S16.size (permOff_inb k)).toLoadRect w = permVec w k := by
  funext x
  have hx : (x 0).val < 16 := (x 0).isLt
  show w _ = _
  unfold permVec
  refine congrArg w (at512_eq _ _ ?_)
  show 16 * k.val + 1 * (x 0).val = _
  omega

theorem permVecs_groups (w : S512.Idx → BitVec 32) : permVecs ((groups.map (permVec w)).reverse) = permVec w := by
  funext n; fin_cases n <;> rfl

theorem loadsFrom_wp (w : S512.Idx → BitVec 32) (k : List (IVec S16 32) → TP F L Unit) (Q : Unit → sProp 𝕄) (ks : List (Fin 32)) :
    ∀ acc : List (IVec S16 32),
    (sP.view.loc (thr d L) ↦{fullShare} w : sProp 𝕄)
      ⊢ iprop(((sP.view.loc (thr d L) ↦{fullShare} w) -∗ WP d L (k ((ks.map (permVec w)).reverse ++ acc)) Q) -∗ WP d L (loadsFrom L sP k ks acc) Q) := by
  induction ks with
  | nil =>
    intro acc
    unfold loadsFrom
    simp only [List.map_nil, List.reverse_nil, List.nil_append]
    iintro Hp HK
    iapply HK; iexact Hp
  | cons n ns ih =>
    intro acc
    unfold loadsFrom
    simp only [Prog.lift, Prog.bind_op, Prog.bind_ret]
    iintro Hp HK
    iapply (wp_load 𝒱₀ (thr d L) none Set.univ (m := sP) (S := Finset.univ) (Finset.subset_univ _)) $$ Hp
    iintro Hp
    rw [permVec_readAt]
    iapply (ih (permVec w n :: acc)) $$ Hp
    iintro Hp
    simp only [List.map_cons, List.reverse_cons, List.append_assoc, List.cons_append, List.nil_append]
    iapply HK; iexact Hp

end Cert.Proof.Permute

end
-- ==== Proof.Half.lean ====
module

public import proofs.«01_k».proof.Proof.RowSpec

@[expose] public section

noncomputable section

namespace Cert.Proof.Permute

open Cert.KernelIdeal Cert.KernelIdeal.Gen Cert.Proof.Rows

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Rows of the arrays -/

/-- The elements of the rows from `lo` up to `hi`. -/
def rowsIn (lo hi : ℕ) : Finset S65536x512.Idx := Finset.univ.filter fun j => lo ≤ (j 0).val ∧ (j 0).val < hi

omit [FloatOps F] in
theorem mem_rowsIn {lo hi : ℕ} {j : S65536x512.Idx} : j ∈ rowsIn lo hi ↔ lo ≤ (j 0).val ∧ (j 0).val < hi := by
  unfold rowsIn; simp

omit [FloatOps F] in
theorem rowsIn_empty {lo hi : ℕ} (h : hi ≤ lo) : rowsIn lo hi = ∅ := by
  refine Finset.eq_empty_of_forall_notMem fun j hj => ?_
  rw [mem_rowsIn] at hj; omega

omit [FloatOps F] in
theorem rowsIn_union {a b c : ℕ} (h : a ≤ b) (h' : b ≤ c) : rowsIn a c = rowsIn a b ∪ rowsIn b c := by
  ext j; simp only [Finset.mem_union, mem_rowsIn]; omega

omit [FloatOps F] in
theorem rowsIn_disjoint (a b c : ℕ) : Disjoint (rowsIn a b) (rowsIn b c) :=
  Finset.disjoint_left.mpr fun j h h' => by rw [mem_rowsIn] at h h'; omega

/-- Rows of the result, of the input, on device `d`. -/
abbrev oRows (d : Dev nD) (lo hi : ℕ) (f : S65536x512.Idx → Elt F .f32) : sProp 𝕄 := oLoc d ↦[rowsIn lo hi]{fullShare} f
abbrev xRows (d : Dev nD) (lo hi : ℕ) (f : S65536x512.Idx → Elt F .f32) : sProp 𝕄 := xLoc d ↦[rowsIn lo hi]{fullShare} f

theorem oRows_split (d : Dev nD) (f : S65536x512.Idx → Elt F .f32) {a b c : ℕ} (h : a ≤ b) (h' : b ≤ c) :
    (oRows d a c f : sProp 𝕄) ⊣⊢ iprop(oRows d a b f ∗ oRows d b c f) := by
  unfold oRows
  rw [rowsIn_union h h']
  exact pointsTo_union (rowsIn_disjoint a b c)
theorem xRows_split (d : Dev nD) (f : S65536x512.Idx → Elt F .f32) {a b c : ℕ} (h : a ≤ b) (h' : b ≤ c) :
    (xRows d a c f : sProp 𝕄) ⊣⊢ iprop(xRows d a b f ∗ xRows d b c f) := by
  unfold xRows
  rw [rowsIn_union h h']
  exact pointsTo_union (rowsIn_disjoint a b c)

/-- The value of the result: row by row, the columns taken by `w`. -/
def outVal (w : S512.Idx → BitVec 32) (fx : S65536x512.Idx → Elt F .f32) (j : S65536x512.Idx) : Elt F .f32 :=
  fx (atBig (j 0).val (w (at512 (j 1).val)).toNat)

/-- The chunk of the input whose first row is `r`. -/
def chunkOf (fx : S65536x512.Idx → Elt F .f32) (r : ℕ) (j : S64x512.Idx) : Elt F .f32 := fx (atBig (r + (j 0).val) (j 1).val)

/-! ## What is in flight -/

section Tile

variable (d : Dev nD) (L : grid0.Coords) (w : S512.Idx → BitVec 32) (fx : S65536x512.Idx → Elt F .f32)
variable (O : CellTallies nD τ sig (HIx 1)) (W : Waits sig (HIx 1))

/-- What the tile owes, whatever waits it has recorded of its own. -/
def Ow : sProp 𝕄 := iprop(∃ W', ⌜∀ p ∈ W', p ∈ W ∨ p.2 = none⌝ ∗ owes (thr d L) O W')

theorem Ow.insert (W' : Waits sig (HIx 1)) (h : ∀ p ∈ W', p ∈ W ∨ p.2 = none) (s : SemLoc sig) :
    (owes (thr d L) O (insert (s, none) W') : sProp 𝕄) ⊢ Ow d L O W := by
  unfold Ow
  iintro H
  iexists _
  isplitr [H]
  rotate_left
  · iexact H
  · ipureintro
    intro p hp
    rcases Finset.mem_insert.mp hp with rfl | hp
    · exact .inr rfl
    · exact h p hp

theorem Ow.elim : (Ow d L O W : sProp 𝕄) ⊢ iprop(∃ W', ⌜∀ p ∈ W', p ∈ W ∨ p.2 = none⌝ ∗ owes (thr d L) O W') := by
  unfold Ow; iintro H; iexact H

abbrev NO : ℕ := sig.dmaCredit .scVector (Kind.scVector.table .hbm) (main_v0_scv : Ref sig .scVector).idx S32x512 .f32
theorem NO_pos : 0 < NO := sig.dmaCredit_pos _ _ _ _ _ (by decide)

/-- A half-buffer with its semaphore, idle. -/
def Idle {s : Shape} (buf : Memref sig .scVector .vmem s .f32) (sem : DmaSems sig S_) : sProp 𝕄 :=
  iprop((∃ f, buf.view.loc (thr d L) ↦{fullShare} f) ∗ semVal (thr d L, .dma sem.sem) 0)

/-- A half-buffer whose copy out of the rows from `lo` up to `hi` is in flight (`b`), or that is idle. -/
def Pend (dst : OutBuf) (sem : DmaSems sig S_) (b : Bool) (lo hi : ℕ) : sProp 𝕄 :=
  if b then Transfers.Flight EC (thr d L) (.dma sem.sem) none NO iprop((∃ f, dst.view.loc (thr d L) ↦{fullShare} f) ∗ oRows d lo hi (outVal w fx))
  else Idle d L dst sem

/-- A chunk fetched into `buf`. -/
def Has (buf : InBuf) (r : ℕ) : sProp 𝕄 :=
  iprop(∃ f, ⌜buf.view.read (Elt F) f = chunkOf fx r⌝ ∗ buf.view.loc (thr d L) ↦{fullShare} f)

/-- An input buffer whose fetch of the chunk at row `r` is in flight. -/
def Fetching (buf : InBuf) (sem : DmaSems sig S_) (r : ℕ) : sProp 𝕄 :=
  Transfers.Flight EC (thr d L) (.dma sem.sem) none buf.view.dmaCredit iprop(Has d L fx buf r ∗ xRows d r (r + 64) fx)

theorem waitOut_wp (dst : OutBuf) (hdst : dst.IsWhole) (sem : DmaSems sig S_) (n : BitVec 32) (b : Bool)
    (hn : (Scalar.cmpi .ne (Scalar.extui (Scalar.cmpi .sge n 1#32) : BitVec 32) 0#32 : BitVec 1) = 1#1 ↔ b = true)
    {a lo hi : ℕ} (h : a ≤ lo) (h' : lo ≤ hi) (hb : b = false → hi = lo) :
    (iprop(Transfers.MayWaits (thr d L) none O ∗ Pend d L w fx dst sem b lo hi ∗ oRows d a lo (outVal w fx) ∗ Ow d L O W) : sProp 𝕄)
      ⊢ WP d L (waitOut L oV dst hdst sem n) fun _ => iprop(Idle d L dst sem ∗ oRows d a hi (outVal w fx) ∗ Ow d L O W) := by
  cases b with
  | false =>
    obtain rfl := hb rfl
    have hc := mt hn.mp (by decide)
    unfold waitOut Pend
    simp only [hc, ↓reduceDIte, Prog.pure_eq_ret, wp_ret, Bool.false_eq_true, ↓reduceIte]
    iintro ⟨-, Hd, Ho, HO⟩
    imodintro
    isplitl [Hd]; · iexact Hd
    isplitl [Ho] <;> iassumption
  | true =>
    have hc := hn.mpr rfl
    unfold waitOut Pend
    simp only [hc, ↓reduceDIte, Prog.lift, Prog.bind_op, Prog.bind_ret, Prog.pure_eq_ret, ↓reduceIte]
    iintro ⟨#Hm, Hf, Ho, HO⟩
    ihave HO := (Ow.elim d L O W) $$ HO
    icases HO with ⟨%W', %hW', HO⟩
    iapply (Transfers.wp_waitLocalO EC 𝒱₀ (thr d L) none none (N := NO) rfl) $$ [Hf HO]
    · isplitl [Hf]; · iexact Hf
      isplitl [HO]; · iexact HO
      iapply (Transfers.MayWaits.elim (.dma sem.sem)); iexact Hm
    iintro ⟨⟨Hd, Hr⟩, Hv, HO⟩
    simp only [wp_ret]
    imodintro
    unfold Idle
    isplitl [Hd Hv]
    · isplitl [Hd] <;> iassumption
    isplitl [Ho Hr]
    · iapply (oRows_split d (outVal w fx) h h').2
      isplitl [Ho] <;> iassumption
    · iapply (Ow.insert d L O W W' hW'); iexact HO

/-! ## Fetches -/

theorem waitIn_wp (src : InBuf) (hsrc : src.IsWhole) (sem : DmaSems sig S_) {a r r' : ℕ} (h : a ≤ r) (hr : r' = r + 64) :
    (iprop(Transfers.MayWaits (thr d L) none O ∗ Fetching d L fx src sem r ∗ xRows d a r fx ∗ Ow d L O W) : sProp 𝕄)
      ⊢ WP d L (waitIn L xV src hsrc sem) fun _ =>
          iprop(Has d L fx src r ∗ semVal (thr d L, .dma sem.sem) 0 ∗ xRows d a r' fx ∗ Ow d L O W) := by
  subst hr
  unfold waitIn Fetching
  simp only [Prog.lift]
  iintro ⟨#Hm, Hf, Hx, HO⟩
  ihave HO := (Ow.elim d L O W) $$ HO
  icases HO with ⟨%W', %hW', HO⟩
  iapply (Transfers.wp_waitLocalO EC 𝒱₀ (thr d L) none none (N := src.view.dmaCredit) rfl) $$ [Hf HO]
  · isplitl [Hf]; · iexact Hf
    isplitl [HO]; · iexact HO
    iapply (Transfers.MayWaits.elim (.dma sem.sem)); iexact Hm
  iintro ⟨⟨Hd, Hr⟩, Hv, HO⟩
  simp only [wp_ret]
  imodintro
  isplitl [Hd]; · iexact Hd
  isplitl [Hv]; · iexact Hv
  isplitl [Hx Hr]
  · iapply (xRows_split d fx h (Nat.le_add_right r 64)).2
    isplitl [Hx] <;> iassumption
  · iapply (Ow.insert d L O W W' hW'); iexact HO

/-- The elements of a chunk's rectangle are its rows. -/
theorem chunk_set {off : Fin 2 → ℕ} {r : ℕ} (ho : off = ![r, 0]) (hoff : ∀ a, off a + S64x512.size a ≤ S65536x512.size a) :
    (xV.slice (Rect.unit (s := S65536x512) off S64x512.size hoff) (fun _ => rfl)).view.set = rowsIn r (r + 64) := by
  subst ho
  refine (View.set_slice_whole (main_arg0_scv : Ref sig .scVector) _).trans ?_
  ext j
  have h1 : (j 1).val < 512 := (j 1).isLt
  rw [mem_rowsIn]
  refine Rect.mem_set_unit.trans ⟨fun h => h 0, fun h a => ?_⟩
  fin_cases a
  · exact h
  · exact ⟨Nat.zero_le _, by show (j 1).val < 0 + 512; omega⟩

theorem half_set {off : Fin 2 → ℕ} {r : ℕ} (ho : off = ![r, 0]) (hoff : ∀ a, off a + S32x512.size a ≤ S65536x512.size a) :
    (oV.slice (Rect.unit (s := S65536x512) off S32x512.size hoff) (fun _ => rfl)).view.set = rowsIn r (r + 32) := by
  subst ho
  refine (View.set_slice_whole (main_v0_scv : Ref sig .scVector) _).trans ?_
  ext j
  have h1 : (j 1).val < 512 := (j 1).isLt
  rw [mem_rowsIn]
  refine Rect.mem_set_unit.trans ⟨fun h => h 0, fun h a => ?_⟩
  fin_cases a
  · exact h
  · exact ⟨Nat.zero_le _, by show (j 1).val < 0 + 512; omega⟩

/-- What a fetch reads is the chunk. -/
theorem chunk_read {off : Fin 2 → ℕ} {r : ℕ} (ho : off = ![r, 0]) (hoff : ∀ a, off a + S64x512.size a ≤ S65536x512.size a) :
    (xV.slice (Rect.unit (s := S65536x512) off S64x512.size hoff) (fun _ => rfl)).view.read (Elt F) fx = chunkOf fx r := by
  subst ho
  funext j
  show fx _ = fx _
  refine congrArg fx (atBig_eq _ _ _ ?_ ?_)
  · show r + 1 * (j 0).val = _; omega
  · show 0 + 1 * (j 1).val = _; omega

/-- Starting a fetch, at the head of a program. -/
theorem fetch_wp {Q : Unit → sProp 𝕄} (buf : InBuf) (hbuf : buf.IsWhole) (sem : DmaSems sig S_) {off : Fin 2 → ℕ} {r r' e : ℕ} (ho : off = ![r, 0])
    (hoff : ∀ a, off a + S64x512.size a ≤ S65536x512.size a) (hr : r' = r + 64) (he : r' ≤ e) (k : PUnit → TP F L Unit) :
    (iprop(Idle d L buf sem ∗ xRows d r e fx) : sProp 𝕄)
      ⊢ iprop((iprop(Fetching d L fx buf sem r ∗ xRows d r' e fx) -∗ WP d L (k ⟨⟩) Q)
        -∗ WP d L (.op (.enqueueDma (xV.slice (Rect.unit (s := S65536x512) off S64x512.size hoff) (fun _ => rfl)) (.here buf) (.dma sem.sem)
            (View.wordExact_bits rfl) hbuf.wordExact ⟨Or.inl rfl, trivial⟩) k) Q) := by
  subst hr
  unfold Idle
  iintro ⟨⟨⟨%f, Hd⟩, Hv⟩, Hx⟩ HK
  ihave Hx := (xRows_split d fx (Nat.le_add_right r 64) he).1 $$ Hx
  icases Hx with ⟨Hx, Hrest⟩
  iapply (Transfers.wp_dmaLocal EC 𝒱₀ (thr d L) none (src := xV.slice (Rect.unit (s := S65536x512) off S64x512.size hoff) (fun _ => rfl))
      (dst := buf) (q := fullShare) (fs := fx) (fd := f) (Sd := Finset.univ) none buf.view.dmaCredit rfl (View.dmaCredit_pos _ (by decide)) (Finset.subset_univ _)) $$ [Hx Hd Hv]
  · isplitl [Hx]
    · rw [chunk_set ho hoff]; iexact Hx
    isplitl [Hd] <;> iassumption
  iintro Hf
  iapply HK
  isplitl [Hf]
  · unfold Fetching Has
    iapply (Transfers.Flight_mono EC (thr d L) ?_) $$ Hf
    iintro ⟨Hd, Hx⟩
    isplitl [Hd]
    · iexists _
      isplitr [Hd]
      rotate_left
      · iexact Hd
      · ipureintro
        refine (View.read_write_univ _ _).trans ?_
        exact chunk_read fx ho hoff
    · rw [chunk_set ho hoff]; iexact Hx
  · iexact Hrest

/-- An input buffer whose fetch of the chunk at row `r` is in flight (`p`), or that is idle; and the rows still to be fetched. -/
def Ahead (buf : InBuf) (sem : DmaSems sig S_) (p : Bool) (r e : ℕ) : sProp 𝕄 :=
  if p then iprop(Fetching d L fx buf sem r ∗ xRows d (r + 64) e fx) else iprop(Idle d L buf sem ∗ xRows d r e fx)

theorem fetchNext_wp (buf : InBuf) (hbuf : buf.IsWhole) (sem : DmaSems sig S_) (b : BitVec 1) (p : Bool) (hb : b = 1#1 ↔ p = true)
    {off : Fin 2 → ℕ} {r e : ℕ} (ho : off = ![r, 0]) (hoff : b = 1#1 → ∀ a, off a + S64x512.size a ≤ S65536x512.size a) (he : p = true → r + 64 ≤ e) :
    (iprop(Idle d L buf sem ∗ xRows d r e fx) : sProp 𝕄)
      ⊢ WP d L (fetchNext L xV buf hbuf sem b off hoff) fun _ => Ahead d L fx buf sem p r e := by
  cases p with
  | false =>
    have hc := mt hb.mp (by decide)
    unfold fetchNext Ahead
    simp only [hc, ↓reduceDIte, Prog.pure_eq_ret, wp_ret, Bool.false_eq_true, ↓reduceIte]
    iintro H; imodintro; iexact H
  | true =>
    have hc := hb.mpr rfl
    unfold fetchNext Ahead
    simp only [hc, ↓reduceDIte, Prog.lift, Prog.bind_op, Prog.bind_ret, Prog.pure_eq_ret, ↓reduceIte]
    iintro H
    iapply (fetch_wp d L fx buf hbuf sem ho (hoff hc) rfl (he rfl) _) $$ H
    iintro H
    simp only [wp_ret]
    imodintro; iexact H

end Tile

end Cert.Proof.Permute

end
-- ==== Proof.HalfSpec.lean ====
module

public import proofs.«01_k».proof.Proof.Half

@[expose] public section

noncomputable section

namespace Cert.Proof.Permute

open Cert.KernelIdeal Cert.KernelIdeal.Gen Cert.Proof.Rows

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords) (w : S512.Idx → BitVec 32) (fx : S65536x512.Idx → Elt F .f32) (fo : S65536x512.Idx → Elt F .f32)
variable (O : CellTallies nD τ sig (HIx 1)) (W : Waits sig (HIx 1))

/-- A program's specification used ahead of a continuation. -/
theorem WP_seq {α β : Type} {P : sProp 𝕄} {m : TP F L α} {R : α → sProp 𝕄} (h : P ⊢ WP d L m R) (k : α → TP F L β) (Q : β → sProp 𝕄) :
    P ⊢ iprop((∀ a, R a -∗ WP d L (k a) Q) -∗ WP d L (m >>= k) Q) := by
  have e : WP d L (m >>= k) Q = WP d L m (fun a => WP d L (k a) Q) := wp_bind _ _ _ _ _ _
  rw [e]
  exact h.trans (wp_wand frame _ _)

/-- Half a chunk permuted is its rows of the result. -/
theorem halfVal_eq (hw : ∀ j, (w j).toNat < 512) (n r : ℕ) (hn : n ≤ 32) (j : S32x512.Idx) :
    halfVal w n (chunkOf fx r) j = outVal w fx (atBig (r + n + (j 0).val) (j 1).val) ∨ 65536 ≤ r + n + (j 0).val := by
  have h0 : (j 0).val < 32 := (j 0).isLt
  have h1 : (j 1).val < 512 := (j 1).isLt
  by_cases hb : 65536 ≤ r + n + (j 0).val
  · exact .inr hb
  · left
    unfold halfVal chunkOf outVal
    have hc := hw (at512 (j 1).val)
    have e : (atBig (r + n + (j 0).val) (j 1).val 1).val = (j 1).val := Nat.mod_eq_of_lt h1
    rw [e]
    refine congrArg fx (atBig_eq _ _ _ ?_ ?_)
    · show (r + (n + (j 0).val) % 64) % 65536 = (r + n + (j 0).val) % 65536; omega
    · show ((w (at512 (j 1).val)).toNat % 512) % 512 = _; omega

theorem half_write (hw : ∀ j, (w j).toNat < 512) {off : Fin 2 → ℕ} {r n : ℕ} (hn : n ≤ 32) (ho : off = ![r + n, 0])
    (hoff : ∀ a, off a + S32x512.size a ≤ S65536x512.size a) (g : S32x512.Idx → Elt F .f32) (hg : ∀ j, g j = halfVal w n (chunkOf fx r) j) :
    ∀ i ∈ rowsIn (r + n) (r + n + 32),
      (oV.slice (Rect.unit (s := S65536x512) off S32x512.size hoff) (fun _ => rfl)).view.write (Elt F) fo g Finset.univ i = outVal w fx i := by
  intro i hi
  rw [← half_set ho hoff] at hi
  obtain ⟨j, -, rfl⟩ := Finset.mem_map.mp hi
  have h0 : (j 0).val < 32 := (j 0).isLt
  have hlt : r + n + 32 ≤ 65536 := by have := hoff 0; rw [ho] at this; exact this
  refine (View.write_emb_of_mem _ _ (Finset.mem_univ j)).trans ?_
  rw [cast_eq, hg]
  rcases halfVal_eq w fx hw n r hn j with h | h
  · rw [h]
    refine congrArg (outVal w fx) (atBig_eq _ _ _ ?_ ?_).symm
    · subst ho; show r + n + 1 * (j 0).val = _; omega
    · subst ho; show 0 + 1 * (j 1).val = _; omega
  · omega

/-- Half a chunk: the rows copied out before are taken in, the permuted rows are under way. -/
theorem half_wp {Q : Unit → sProp 𝕄} (hw : ∀ j, (w j).toNat < 512) (src : InBuf) (dst : OutBuf) (hdst : dst.IsWhole) (hset : dst.view.set = Finset.univ)
    (sem : DmaSems sig S_) (n b : BitVec 32) (hb : b = 0#32 ∨ b = 32#32) (p : Bool)
    (hn : (Scalar.cmpi .ne (Scalar.extui (Scalar.cmpi .sge n 1#32) : BitVec 32) 0#32 : BitVec 1) = 1#1 ↔ p = true)
    {off : Fin 2 → ℕ} {r s s' a lo hi e : ℕ} (hs : s = r + b.toNat) (hs' : s' = s + 32) (ho : off = ![s, 0])
    (hoff : ∀ a, off a + S32x512.size a ≤ S65536x512.size a)
    (h : a ≤ lo) (h' : lo ≤ hi) (hp : p = false → hi = lo) (he : s' ≤ e) (k : TP F L Unit) :
    (iprop(Transfers.MayWaits (thr d L) none O ∗ (sP.view.loc (thr d L) ↦{fullShare} w) ∗ Has d L fx src r ∗ Pend d L w fx dst sem p lo hi
        ∗ oRows d a lo (outVal w fx) ∗ oRows d s e fo ∗ Ow d L O W) : sProp 𝕄)
      ⊢ iprop((iprop((sP.view.loc (thr d L) ↦{fullShare} w) ∗ Has d L fx src r ∗ Pend d L w fx dst sem true s s'
            ∗ oRows d a hi (outVal w fx) ∗ oRows d s' e fo ∗ Ow d L O W) -∗ WP d L k Q)
        -∗ WP d L (half L sP oV src dst hdst sem n b off hoff k) Q) := by
  subst hs; subst hs'
  have hbn : b.toNat ≤ 32 := by rcases hb with rfl | rfl <;> decide
  unfold half
  iintro ⟨#Hm, Hp, Hs, Hd, Hdone, Htodo, HO⟩ HK
  iapply (WP_seq d L (waitOut_wp d L w fx O W dst hdst sem n p hn h h' hp)) $$ [Hd Hdone HO]
  · isplitr; · iexact Hm
    isplitl [Hd]; · iexact Hd
    isplitl [Hdone] <;> iassumption
  iintro %_ ⟨Hd, Hdone, HO⟩
  iapply (loadsFrom_wp d L w _ Q groups []) $$ Hp
  iintro Hp
  rw [List.append_nil, permVecs_groups]
  unfold Has Idle
  icases Hs with ⟨%fs, %hfs, Hs⟩
  icases Hd with ⟨⟨%fd, Hd⟩, Hv⟩
  iapply (Scf.wp_for_bind frame (wpE (defs₀ (F := F)) 𝒱₀ (thr d L) none) Set.univ _ _ _ _ _ _
      (fun m _ => iprop((src.view.loc (thr d L) ↦{fullShare} fs) ∗ ∃ f, ⌜∀ j : S32x512.Idx, (j 0).val < m →
          dst.view.read (Elt F) f j = halfVal w b.toNat (src.view.read (Elt F) fs) j⌝ ∗ dst.view.loc (thr d L) ↦{fullShare} f))
      (fun t _ => rowProg_wp d L w hw src dst b hb t fs)) $$ [Hs Hd]
  · isplitl [Hs]; · iexact Hs
    iexists fd
    isplitr [Hd]
    · ipureintro; intro j hj; exact absurd hj (Nat.not_lt_zero _)
    · iexact Hd
  iintro %_ ⟨Hs, %f, %hf, Hd⟩
  simp only [Prog.lift, Prog.bind_op, Prog.bind_ret]
  ihave Htodo := (oRows_split d fo (Nat.le_add_right (r + b.toNat) 32) he).1 $$ Htodo
  icases Htodo with ⟨Hslab, Htodo⟩
  iapply (Transfers.wp_dmaLocal EC 𝒱₀ (thr d L) none (src := dst) (dst := oV.slice (Rect.unit (s := S65536x512) off S32x512.size hoff) (fun _ => rfl))
      (q := fullShare) (fs := f) (fd := fo) (Sd := rowsIn (r + b.toNat) (r + b.toNat + 32)) none NO rfl NO_pos (half_set ho hoff).subset) $$ [Hd Hslab Hv]
  · isplitl [Hd]
    · rw [hset]; iexact Hd
    isplitl [Hslab] <;> iassumption
  iintro Hf
  iapply HK
  isplitl [Hp]; · iexact Hp
  isplitl [Hs]
  · iexists fs
    isplitr [Hs]
    · ipureintro; exact hfs
    · iexact Hs
  isplitl [Hf]
  · unfold Pend
    simp only [↓reduceIte]
    iapply (Transfers.Flight_mono EC (thr d L) ?_) $$ Hf
    iintro ⟨Ho, Hd⟩
    isplitl [Hd]
    · iexists f; rw [hset]; iexact Hd
    · refine Entails.of_eq (pointsTo_congr (half_write w fx fo hw hbn ho hoff _ fun j => ?_))
      rw [← hfs]
      exact hf j (j 0).isLt
  isplitl [Hdone]; · iexact Hdone
  isplitl [Htodo] <;> iassumption

end Cert.Proof.Permute

end
-- ==== Proof.Trip.lean ====
module

public import proofs.«01_k».proof.Proof.HalfSpec

@[expose] public section

noncomputable section

namespace Cert.Proof.Permute

open Cert.KernelIdeal Cert.KernelIdeal.Gen Cert.Proof.Rows

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A trip of the outer loop -/

abbrev inA : InBuf := Memref.whole cc0_scratch1
abbrev inB : InBuf := Memref.whole cc0_scratch2
abbrev outA : OutBuf := Memref.whole cc0_scratch3
abbrev outB : OutBuf := Memref.whole cc0_scratch4

/-- The first row of a tile. -/
def base (L : grid0.Coords) : ℕ := 4096 * (L 1).val + 2048 * (L 0).val

theorem cond1_true : ∀ t : Fin k0_t1_loop.trips, k0_cond1 t = 1#1 ↔ true = true := by decide +kernel
theorem cond4_iff : ∀ t : Fin k0_t1_loop.trips, k0_cond4 t = 1#1 ↔ decide (t.val + 1 < 16) = true := by decide +kernel
theorem chunkA_iff : ∀ t : Fin k0_t1_loop.trips,
    (Scalar.cmpi .ne (Scalar.extui (Scalar.cmpi .sge (chunkA t) 1#32) : BitVec 32) 0#32 : BitVec 1) = 1#1 ↔ decide (0 < t.val) = true := by decide +kernel
theorem chunkB_iff : ∀ t : Fin k0_t1_loop.trips,
    (Scalar.cmpi .ne (Scalar.extui (Scalar.cmpi .sge (chunkB t) 1#32) : BitVec 32) 0#32 : BitVec 1) = 1#1 ↔ true = true := by decide +kernel

variable (d : Dev nD) (L : grid0.Coords) (w : S512.Idx → BitVec 32) (fx : S65536x512.Idx → Elt F .f32) (fo : S65536x512.Idx → Elt F .f32)
variable (O : CellTallies nD τ sig (HIx 1)) (W : Waits sig (HIx 1))

/-- What a tile holds ahead of trip `n`: two chunks of the input per trip are behind it, the first of the next two under
    way; the result's rows are final but for the two halves last started, which are under way. -/
def Inv (n : ℕ) : sProp 𝕄 :=
  iprop((sP.view.loc (thr d L) ↦{fullShare} w) ∗ xRows d (base L) (base L + 128 * n) fx
    ∗ Ahead d L fx inA cc0_scratch5 (decide (n < 16)) (base L + 128 * n) (base L + 2048)
    ∗ Idle d L inB cc0_scratch6
    ∗ oRows d (base L) (base L + (128 * n - 64)) (outVal w fx)
    ∗ Pend d L w fx outA cc0_scratch7 (decide (0 < n)) (base L + (128 * n - 64)) (base L + (128 * n - 32))
    ∗ Pend d L w fx outB cc0_scratch8 (decide (0 < n)) (base L + (128 * n - 32)) (base L + 128 * n)
    ∗ oRows d (base L + 128 * n) (base L + 2048) fo
    ∗ Ow d L O W)

theorem Ahead.fetching {buf : InBuf} {sem : DmaSems sig S_} {p : Bool} (hp : p = true) {r e : ℕ} :
    (Ahead d L fx buf sem p r e : sProp 𝕄) ⊢ iprop(Fetching d L fx buf sem r ∗ xRows d (r + 64) e fx) := by
  subst hp; unfold Ahead; simp only [↓reduceIte]; iintro H; iexact H

/-- A chunk's buffer once its rows are taken. -/
theorem Has.idle (buf : InBuf) (sem : DmaSems sig S_) (r : ℕ) :
    (iprop(Has d L fx buf r ∗ semVal (thr d L, .dma sem.sem) 0) : sProp 𝕄) ⊢ Idle d L buf sem := by
  unfold Has Idle
  iintro ⟨⟨%f, -, H⟩, Hv⟩
  isplitl [H]
  · iexists f; iexact H
  · iexact Hv

/-- Both halves of a chunk: what was under way from the half-buffers before is done, the chunk's rows are under way. -/
theorem chunk_wp {Q : Unit → sProp 𝕄} (hw : ∀ j, (w j).toNat < 512) (src : InBuf) (n : BitVec 32) (p : Bool)
    (hn : (Scalar.cmpi .ne (Scalar.extui (Scalar.cmpi .sge n 1#32) : BitVec 32) 0#32 : BitVec 1) = 1#1 ↔ p = true)
    {off off' : Fin 2 → ℕ} {r r1 r2 a l0 l1 l2 e : ℕ} (h1 : r1 = r + 32) (h2 : r2 = r + 64) (ho : off = ![r, 0]) (ho' : off' = ![r1, 0])
    (hoff : ∀ a, off a + S32x512.size a ≤ S65536x512.size a) (hoff' : ∀ a, off' a + S32x512.size a ≤ S65536x512.size a)
    (ha : a ≤ l0) (hl : l0 ≤ l1) (hl' : l1 ≤ l2) (hp : p = false → l1 = l0 ∧ l2 = l1) (he : r2 ≤ e) (k : TP F L Unit) :
    (iprop(Transfers.MayWaits (thr d L) none O ∗ (sP.view.loc (thr d L) ↦{fullShare} w) ∗ Has d L fx src r
        ∗ (oRows d a l0 (outVal w fx) ∗ Pend d L w fx outA cc0_scratch7 p l0 l1 ∗ Pend d L w fx outB cc0_scratch8 p l1 l2 ∗ oRows d r e fo)
        ∗ Ow d L O W) : sProp 𝕄)
      ⊢ iprop((iprop((sP.view.loc (thr d L) ↦{fullShare} w) ∗ Has d L fx src r
            ∗ (oRows d a l2 (outVal w fx) ∗ Pend d L w fx outA cc0_scratch7 true r r1 ∗ Pend d L w fx outB cc0_scratch8 true r1 r2 ∗ oRows d r2 e fo)
            ∗ Ow d L O W) -∗ WP d L k Q)
        -∗ WP d L (half L sP oV src outA (Memref.isWhole_whole _) cc0_scratch7 n 0#32 off hoff <|
            half L sP oV src outB (Memref.isWhole_whole _) cc0_scratch8 n 32#32 off' hoff' k) Q) := by
  iintro ⟨#Hm, Hp, Hs, ⟨Hod, HoA, HoB, Hot⟩, HO⟩ HK
  iapply (half_wp d L w fx fo O W hw src outA _ (View.set_whole _) cc0_scratch7 n 0#32 (.inl rfl) p hn (r := r) (s := r) (s' := r1) (a := a) (lo := l0)
      (hi := l1) (e := e) rfl h1 ho hoff ha hl (fun h => (hp h).1) (by omega) _) $$ [Hp Hs HoA Hod Hot HO]
  · isplitr; · iexact Hm
    isplitl [Hp]; · iexact Hp
    isplitl [Hs]; · iexact Hs
    isplitl [HoA]; · iexact HoA
    isplitl [Hod]; · iexact Hod
    isplitl [Hot] <;> iassumption
  iintro ⟨Hp, Hs, HoA, Hod, Hot, HO⟩
  iapply (half_wp d L w fx fo O W hw src outB _ (View.set_whole _) cc0_scratch8 n 32#32 (.inr rfl) p hn (r := r) (s := r1) (s' := r2) (a := a) (lo := l1)
      (hi := l2) (e := e) h1 (by omega) ho' hoff' (by omega) hl' (fun h => (hp h).2) he _) $$ [Hp Hs HoB Hod Hot HO]
  · isplitr; · iexact Hm
    isplitl [Hp]; · iexact Hp
    isplitl [Hs]; · iexact Hs
    isplitl [HoB]; · iexact HoB
    isplitl [Hod]; · iexact Hod
    isplitl [Hot] <;> iassumption
  iintro ⟨Hp, Hs, HoB, Hod, Hot, HO⟩
  iapply HK
  isplitl [Hp]; · iexact Hp
  isplitl [Hs]; · iexact Hs
  isplitl [Hod HoA HoB Hot]
  · isplitl [Hod]; · iexact Hod
    isplitl [HoA]; · iexact HoA
    isplitl [HoB] <;> iassumption
  · iexact HO

/-- A chunk from its fetch on: wait for it, start the next fetch into the other buffer (`p'`), take both halves. -/
theorem round_wp {Q : Unit → sProp 𝕄} (hw : ∀ j, (w j).toNat < 512) (cur nxt : InBuf) (hcur : cur.IsWhole) (hnxt : nxt.IsWhole) (semC semN : DmaSems sig S_)
    (b : BitVec 1) (p' : Bool) (hb : b = 1#1 ↔ p' = true) (n : BitVec 32) (p : Bool)
    (hn : (Scalar.cmpi .ne (Scalar.extui (Scalar.cmpi .sge n 1#32) : BitVec 32) 0#32 : BitVec 1) = 1#1 ↔ p = true)
    {offN off off' : Fin 2 → ℕ} {r r1 r2 a l0 l1 l2 e : ℕ} (h1 : r1 = r + 32) (h2 : r2 = r + 64) (hoN : offN = ![r2, 0]) (ho : off = ![r, 0]) (ho' : off' = ![r1, 0])
    (hoffN : b = 1#1 → ∀ a, offN a + S64x512.size a ≤ S65536x512.size a)
    (hoff : ∀ a, off a + S32x512.size a ≤ S65536x512.size a) (hoff' : ∀ a, off' a + S32x512.size a ≤ S65536x512.size a)
    (har : a ≤ r) (ha : a ≤ l0) (hl : l0 ≤ l1) (hl' : l1 ≤ l2) (hp : p = false → l1 = l0 ∧ l2 = l1) (he : r2 ≤ e) (he' : p' = true → r2 + 64 ≤ e)
    (k : TP F L Unit) :
    (iprop(Transfers.MayWaits (thr d L) none O ∗ (sP.view.loc (thr d L) ↦{fullShare} w)
        ∗ (xRows d a r fx ∗ Fetching d L fx cur semC r ∗ xRows d (r + 64) e fx ∗ Idle d L nxt semN)
        ∗ (oRows d a l0 (outVal w fx) ∗ Pend d L w fx outA cc0_scratch7 p l0 l1 ∗ Pend d L w fx outB cc0_scratch8 p l1 l2 ∗ oRows d r e fo)
        ∗ Ow d L O W) : sProp 𝕄)
      ⊢ iprop((iprop((sP.view.loc (thr d L) ↦{fullShare} w)
            ∗ (xRows d a r2 fx ∗ Ahead d L fx nxt semN p' r2 e ∗ Idle d L cur semC)
            ∗ (oRows d a l2 (outVal w fx) ∗ Pend d L w fx outA cc0_scratch7 true r r1 ∗ Pend d L w fx outB cc0_scratch8 true r1 r2 ∗ oRows d r2 e fo)
            ∗ Ow d L O W) -∗ WP d L k Q)
        -∗ WP d L (waitIn L xV cur hcur semC >>= fun _ => fetchNext L xV nxt hnxt semN b offN hoffN >>= fun _ =>
            half L sP oV cur outA (Memref.isWhole_whole _) cc0_scratch7 n 0#32 off hoff <|
            half L sP oV cur outB (Memref.isWhole_whole _) cc0_scratch8 n 32#32 off' hoff' k) Q) := by
  subst h2
  iintro ⟨#Hm, Hp, ⟨Hxd, Hf, Hxt, HN⟩, Hout, HO⟩ HK
  iapply (WP_seq d L (waitIn_wp d L fx O W cur hcur semC har rfl)) $$ [Hf Hxd HO]
  · isplitr; · iexact Hm
    isplitl [Hf]; · iexact Hf
    isplitl [Hxd] <;> iassumption
  iintro %_ ⟨HC, Hv, Hxd, HO⟩
  iapply (WP_seq d L (fetchNext_wp d L fx nxt hnxt semN b p' hb hoN hoffN he')) $$ [HN Hxt]
  · isplitl [HN] <;> iassumption
  iintro %_ HN
  iapply (chunk_wp d L w fx fo O W hw cur n p hn h1 rfl ho ho' hoff hoff' ha hl hl' hp he k) $$ [Hp HC Hout HO]
  · isplitr; · iexact Hm
    isplitl [Hp]; · iexact Hp
    isplitl [HC]; · iexact HC
    isplitl [Hout] <;> iassumption
  iintro ⟨Hp, HC, Hout, HO⟩
  iapply HK
  isplitl [Hp]; · iexact Hp
  isplitl [Hxd HN HC Hv]
  · isplitl [Hxd]; · iexact Hxd
    isplitl [HN]; · iexact HN
    iapply (Has.idle d L fx cur semC r)
    isplitl [HC] <;> iassumption
  isplitl [Hout] <;> iassumption

theorem trip_wp (hw : ∀ j, (w j).toNat < 512) (t : Fin k0_t1_loop.trips) :
    (iprop(Transfers.MayWaits (thr d L) none O ∗ Inv d L w fx fo O W t.val) : sProp 𝕄)
      ⊢ WP d L (trip L xV oV sP inA (Memref.isWhole_whole _) inB (Memref.isWhole_whole _) outA (Memref.isWhole_whole _) outB (Memref.isWhole_whole _)
          cc0_scratch5 cc0_scratch6 cc0_scratch7 cc0_scratch8 t) fun _ => Inv d L w fx fo O W (t.val + 1) := by
  have ht : t.val < 16 := t.isLt
  unfold trip Inv
  have e0 : base L + (128 * (t.val + 1) - 64) = base L + 128 * t.val + 64 := by omega
  have e1 : base L + (128 * (t.val + 1) - 32) = base L + 128 * t.val + 96 := by omega
  have e2 : base L + 128 * (t.val + 1) = base L + 128 * t.val + 128 := by omega
  have e3 : decide (0 < t.val + 1) = true := by simp
  rw [e0, e1, e2, e3]
  iintro ⟨#Hm, Hp, Hxd, HA, HB, Hod, HoA, HoB, Hot, HO⟩
  ihave HA := (Ahead.fetching d L fx (by simp [ht])) $$ HA
  icases HA with ⟨HA, Hxt⟩
  iapply (round_wp d L w fx fo O W hw inA inB _ _ cc0_scratch5 cc0_scratch6 (k0_cond1 t) true (cond1_true t) (chunkA t) (decide (0 < t.val)) (chunkA_iff t)
      (r := base L + 128 * t.val) (r1 := base L + 128 * t.val + 32) (r2 := base L + 128 * t.val + 64) (a := base L) (l0 := base L + (128 * t.val - 64))
      (l1 := base L + (128 * t.val - 32)) (l2 := base L + 128 * t.val) (e := base L + 2048) rfl rfl (k0_off2_eq L t) (k0_off35_eq L t) (k0_off68_eq L t)
      (k0_off2_inb L t) (k0_off35_inb L t) (k0_off68_inb L t) (by omega) (by omega) (by omega) (by omega)
      (fun h => by simp at h; omega) (by omega) (fun _ => by omega) _) $$ [Hp Hxd HA Hxt HB Hod HoA HoB Hot HO]
  · isplitr; · iexact Hm
    isplitl [Hp]; · iexact Hp
    isplitl [Hxd HA Hxt HB]
    · isplitl [Hxd]; · iexact Hxd
      isplitl [HA]; · iexact HA
      isplitl [Hxt] <;> iassumption
    isplitl [Hod HoA HoB Hot]
    · isplitl [Hod]; · iexact Hod
      isplitl [HoA]; · iexact HoA
      isplitl [HoB] <;> iassumption
    · iexact HO
  iintro ⟨Hp, ⟨Hxd, HB, HA⟩, ⟨Hod, HoA, HoB, Hot⟩, HO⟩
  ihave HB := (Ahead.fetching d L fx rfl) $$ HB
  icases HB with ⟨HB, Hxt⟩
  iapply (round_wp d L w fx fo O W hw inB inA _ _ cc0_scratch6 cc0_scratch5 (k0_cond4 t) (decide (t.val + 1 < 16)) (cond4_iff t) (chunkB t) true (chunkB_iff t)
      (r := base L + 128 * t.val + 64) (r1 := base L + 128 * t.val + 96) (r2 := base L + 128 * t.val + 128)
      (a := base L) (l0 := base L + 128 * t.val) (l1 := base L + 128 * t.val + 32) (l2 := base L + 128 * t.val + 64) (e := base L + 2048) rfl rfl
      (k0_off69_eq L t) (k0_off102_eq L t) (k0_off135_eq L t)
      (k0_off69_inb L t) (k0_off102_inb L t) (k0_off135_inb L t) (by omega) (by omega) (by omega) (by omega)
      (fun h => by simp at h) (by omega) (fun h => by simp at h; omega) _) $$ [Hp Hxd HA Hxt HB Hod HoA HoB Hot HO]
  · isplitr; · iexact Hm
    isplitl [Hp]; · iexact Hp
    isplitl [Hxd HB Hxt HA]
    · isplitl [Hxd]; · iexact Hxd
      isplitl [HB]; · iexact HB
      isplitl [Hxt] <;> iassumption
    isplitl [Hod HoA HoB Hot]
    · isplitl [Hod]; · iexact Hod
      isplitl [HoA]; · iexact HoA
      isplitl [HoB] <;> iassumption
    · iexact HO
  iintro ⟨Hp, ⟨Hxd, HA, HB⟩, ⟨Hod, HoA, HoB, Hot⟩, HO⟩
  simp only [Prog.pure_eq_ret, wp_ret]
  imodintro
  isplitl [Hp]; · iexact Hp
  isplitl [Hxd]; · iexact Hxd
  isplitl [HA]; · iexact HA
  isplitl [HB]; · iexact HB
  isplitl [Hod]; · iexact Hod
  isplitl [HoA]; · iexact HoA
  isplitl [HoB]; · iexact HoB
  isplitl [Hot] <;> iassumption

end Cert.Proof.Permute

end
-- ==== Proof.Text.lean ====
module

public import proofs.«01_k».proof.Proof.Rows
public import proofs.«01_k».proof.Proof.Gen.KernelIdeal.Skeleton

@[expose] public section

noncomputable section

namespace Cert.Proof.Rows

open Cert.KernelIdeal Cert.KernelIdeal.Gen
open Idealize.ShloMosaic Idealize.SL.Sem

variable {F : FTy → Type} [FloatOps F]

/-! ## The kernel's text as these pieces

Each part of the printed body, at the head of a program, is the pieces it is cut from. -/

set_option maxRecDepth 65536 in
theorem part13_bind (i : grid0.Coords) (arg2 : Memref sig .scVector .hbm S65536x512 .f32) (harg2 : arg2.IsWhole) (arg3 : Memref sig .scVector .hbm S512 .i32) (harg3 : arg3.IsWhole) (arg4 : Memref sig .scVector .hbm S65536x512 .f32) (harg4 : arg4.IsWhole) (arg5 : Memref sig .scVector .vmem S512 .i32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S32x512 .f32) (harg8 : arg8.IsWhole) (arg9 : Memref sig .scVector .vmem S32x512 .f32) (harg9 : arg9.IsWhole) (arg10 : DmaSems sig S_) (arg11 : DmaSems sig S_) (arg12 : DmaSems sig S_) (arg13 : DmaSems sig S_) (v11_r0 : DmaSems sig S_) (v2 : BitVec 32) (c0_i32_3 : BitVec 32) (c1_i32 : BitVec 32) (k0_t1 : Fin k0_t1_loop.trips) (K : (Σ' (arg14 : BitVec 32) (v12 : BitVec 32) (v22 : Vec F S16 .i32) (v23 : Vec F S16 .i32) (v24 : Vec F S16 .i32) (v25 : Vec F S16 .i32) (v26 : Vec F S16 .i32) (v27 : Vec F S16 .i32) (v28 : Vec F S16 .i32) (v29 : Vec F S16 .i32) (v30 : Vec F S16 .i32) (v31 : Vec F S16 .i32) (v32 : Vec F S16 .i32) (v33 : Vec F S16 .i32) (v34 : Vec F S16 .i32) (v35 : Vec F S16 .i32) (v36 : Vec F S16 .i32) (v37 : Vec F S16 .i32), Vec F S16 .i32) → TP F i Unit) :
    (k0_part13 (F := F) i arg2 harg2 arg3 harg3 arg4 harg4 arg5 harg5 arg6 harg6 arg7 harg7 arg8 harg8 arg9 harg9 arg10 arg11 arg12 arg13 v11_r0 v2 c0_i32_3 c1_i32 k0_t1 >>= K) =
      waitIn i arg2 arg6 harg6 arg10 >>= fun _ =>
      fetchNext i arg2 arg7 harg7 arg11 (k0_cond1 k0_t1) (k0_off2 i k0_t1) (k0_off2_inb i k0_t1) >>= fun _ =>
      waitOut i arg4 arg8 harg8 arg12 (Scalar.addi (Scalar.muli 2#32 (Scf.iv c0_i32_3 c1_i32 k0_t1)) 0#32) >>= fun _ =>
      loadsFrom i arg5 (fun acc => K ⟨(Scf.iv c0_i32_3 c1_i32 k0_t1), (Scalar.addi (Scalar.muli 2#32 (Scf.iv c0_i32_3 c1_i32 k0_t1)) 0#32), acc.getD 16 (fun _ => 0#32), acc.getD 15 (fun _ => 0#32), acc.getD 14 (fun _ => 0#32), acc.getD 13 (fun _ => 0#32), acc.getD 12 (fun _ => 0#32), acc.getD 11 (fun _ => 0#32), acc.getD 10 (fun _ => 0#32), acc.getD 9 (fun _ => 0#32), acc.getD 8 (fun _ => 0#32), acc.getD 7 (fun _ => 0#32), acc.getD 6 (fun _ => 0#32), acc.getD 5 (fun _ => 0#32), acc.getD 4 (fun _ => 0#32), acc.getD 3 (fun _ => 0#32), acc.getD 2 (fun _ => 0#32), acc.getD 1 (fun _ => 0#32), acc.getD 0 (fun _ => 0#32)⟩) [0, 1, 2, 3, 4, 5, 6, 7, 8, 9, 10, 11, 12, 13, 14, 15, 16] [] := by
  rw [k0_part13_eq_skeleton]; unfold k0_part13_skel fetchNext waitOut
  by_cases h0 : k0_cond1 k0_t1 = 1#1 <;> by_cases h1 : (Scalar.cmpi .ne (Scalar.extui (Scalar.cmpi .sge (Scalar.addi (Scalar.muli 2#32 (Scf.iv c0_i32_3 c1_i32 k0_t1)) 0#32) 1#32) : BitVec 32) 0#32 : BitVec 1) = 1#1
  all_goals simp only [h0, h1, ↓reduceDIte, Prog.bind_assoc]
  all_goals rfl

set_option maxRecDepth 65536 in
theorem part14_bind (i : grid0.Coords) (arg2 : Memref sig .scVector .hbm S65536x512 .f32) (harg2 : arg2.IsWhole) (arg3 : Memref sig .scVector .hbm S512 .i32) (harg3 : arg3.IsWhole) (arg4 : Memref sig .scVector .hbm S65536x512 .f32) (harg4 : arg4.IsWhole) (arg5 : Memref sig .scVector .vmem S512 .i32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S32x512 .f32) (harg8 : arg8.IsWhole) (arg9 : Memref sig .scVector .vmem S32x512 .f32) (harg9 : arg9.IsWhole) (arg10 : DmaSems sig S_) (arg11 : DmaSems sig S_) (arg12 : DmaSems sig S_) (arg13 : DmaSems sig S_) (v11_r0 : DmaSems sig S_) (v2 : BitVec 32) (k0_t1 : Fin k0_t1_loop.trips) (v12 : BitVec 32) (v22 : Vec F S16 .i32) (v23 : Vec F S16 .i32) (v24 : Vec F S16 .i32) (v25 : Vec F S16 .i32) (v26 : Vec F S16 .i32) (v27 : Vec F S16 .i32) (v28 : Vec F S16 .i32) (v29 : Vec F S16 .i32) (v30 : Vec F S16 .i32) (v31 : Vec F S16 .i32) (v32 : Vec F S16 .i32) (v33 : Vec F S16 .i32) (v34 : Vec F S16 .i32) (v35 : Vec F S16 .i32) (v36 : Vec F S16 .i32) (v37 : Vec F S16 .i32) (v38 : Vec F S16 .i32) (K : (Σ' (v63 : Vec F S16 .i32) (v64 : Vec F S16 .i32) (v65 : Vec F S16 .i32), Vec F S16 .i32) → TP F i Unit) :
    (k0_part14 (F := F) i arg2 harg2 arg3 harg3 arg4 harg4 arg5 harg5 arg6 harg6 arg7 harg7 arg8 harg8 arg9 harg9 arg10 arg11 arg12 arg13 v11_r0 v2 k0_t1 v12 v22 v23 v24 v25 v26 v27 v28 v29 v30 v31 v32 v33 v34 v35 v36 v37 v38 >>= K) =
      loadsFrom i arg5 (fun acc =>
        Scf.Loop.for k0_t2_loop k0_t2_ok ⟨⟩ (k0_t2_body (F := F) i arg2 harg2 arg3 harg3 arg4 harg4 arg5 harg5 arg6 harg6 arg7 harg7 arg8 harg8 arg9 harg9 arg10 arg11 arg12 arg13 v11_r0 v2 k0_t1 v12 v22 v23 v24 v25 v26 v27 v28 v29 v30 v31 v32 v33 v34 v35 v36 v37 v38 (acc.getD 14 (fun _ => 0#32)) (acc.getD 13 (fun _ => 0#32)) (acc.getD 12 (fun _ => 0#32)) (acc.getD 11 (fun _ => 0#32)) (acc.getD 10 (fun _ => 0#32)) (acc.getD 9 (fun _ => 0#32)) (acc.getD 8 (fun _ => 0#32)) (acc.getD 7 (fun _ => 0#32)) (acc.getD 6 (fun _ => 0#32)) (acc.getD 5 (fun _ => 0#32)) (acc.getD 4 (fun _ => 0#32)) (acc.getD 3 (fun _ => 0#32)) (acc.getD 2 (fun _ => 0#32)) (acc.getD 1 (fun _ => 0#32)) (acc.getD 0 (fun _ => 0#32))) >>= fun _ =>
        Prog.lift (.enqueueDma arg8 (.here (arg4.slice (Rect.unit (s := S65536x512) (k0_off35 i k0_t1) S32x512.size (k0_off35_inb i k0_t1)) (fun _ => rfl))) (.dma arg12.sem) harg8.wordExact
        (View.wordExact_bits rfl) ⟨Or.inl rfl, trivial⟩) >>= fun _ =>
        waitOut i arg4 arg9 harg9 arg13 v12 >>= fun _ =>
        loadsFrom i arg5 (fun acc => K ⟨acc.getD 3 (fun _ => 0#32), acc.getD 2 (fun _ => 0#32), acc.getD 1 (fun _ => 0#32), acc.getD 0 (fun _ => 0#32)⟩) [0, 1, 2, 3] []) [17, 18, 19, 20, 21, 22, 23, 24, 25, 26, 27, 28, 29, 30, 31] [] := by
  rw [k0_part14_eq_skeleton]; unfold k0_part14_skel waitOut
  by_cases h0 : (Scalar.cmpi .ne (Scalar.extui (Scalar.cmpi .sge v12 1#32) : BitVec 32) 0#32 : BitVec 1) = 1#1
  all_goals simp only [h0, ↓reduceDIte, Prog.bind_assoc]
  all_goals rfl

set_option maxRecDepth 65536 in
theorem part15_bind (i : grid0.Coords) (arg2 : Memref sig .scVector .hbm S65536x512 .f32) (harg2 : arg2.IsWhole) (arg3 : Memref sig .scVector .hbm S512 .i32) (harg3 : arg3.IsWhole) (arg4 : Memref sig .scVector .hbm S65536x512 .f32) (harg4 : arg4.IsWhole) (arg5 : Memref sig .scVector .vmem S512 .i32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S32x512 .f32) (harg8 : arg8.IsWhole) (arg9 : Memref sig .scVector .vmem S32x512 .f32) (harg9 : arg9.IsWhole) (arg10 : DmaSems sig S_) (arg11 : DmaSems sig S_) (arg12 : DmaSems sig S_) (arg13 : DmaSems sig S_) (v11_r0 : DmaSems sig S_) (K : (Σ' (v67 : Vec F S16 .i32) (v68 : Vec F S16 .i32) (v69 : Vec F S16 .i32) (v70 : Vec F S16 .i32) (v71 : Vec F S16 .i32) (v72 : Vec F S16 .i32) (v73 : Vec F S16 .i32) (v74 : Vec F S16 .i32) (v75 : Vec F S16 .i32) (v76 : Vec F S16 .i32) (v77 : Vec F S16 .i32) (v78 : Vec F S16 .i32) (v79 : Vec F S16 .i32) (v80 : Vec F S16 .i32) (v81 : Vec F S16 .i32) (v82 : Vec F S16 .i32) (v83 : Vec F S16 .i32) (v84 : Vec F S16 .i32) (v85 : Vec F S16 .i32) (v86 : Vec F S16 .i32) (v87 : Vec F S16 .i32) (v88 : Vec F S16 .i32) (v89 : Vec F S16 .i32) (v90 : Vec F S16 .i32) (v91 : Vec F S16 .i32) (v92 : Vec F S16 .i32) (v93 : Vec F S16 .i32) (v94 : Vec F S16 .i32) (c0_i32_64 : BitVec 32), BitVec 32) → TP F i Unit) :
    (k0_part15 (F := F) i arg2 harg2 arg3 harg3 arg4 harg4 arg5 harg5 arg6 harg6 arg7 harg7 arg8 harg8 arg9 harg9 arg10 arg11 arg12 arg13 v11_r0 >>= K) =
      loadsFrom i arg5 (fun acc => K ⟨acc.getD 27 (fun _ => 0#32), acc.getD 26 (fun _ => 0#32), acc.getD 25 (fun _ => 0#32), acc.getD 24 (fun _ => 0#32), acc.getD 23 (fun _ => 0#32), acc.getD 22 (fun _ => 0#32), acc.getD 21 (fun _ => 0#32), acc.getD 20 (fun _ => 0#32), acc.getD 19 (fun _ => 0#32), acc.getD 18 (fun _ => 0#32), acc.getD 17 (fun _ => 0#32), acc.getD 16 (fun _ => 0#32), acc.getD 15 (fun _ => 0#32), acc.getD 14 (fun _ => 0#32), acc.getD 13 (fun _ => 0#32), acc.getD 12 (fun _ => 0#32), acc.getD 11 (fun _ => 0#32), acc.getD 10 (fun _ => 0#32), acc.getD 9 (fun _ => 0#32), acc.getD 8 (fun _ => 0#32), acc.getD 7 (fun _ => 0#32), acc.getD 6 (fun _ => 0#32), acc.getD 5 (fun _ => 0#32), acc.getD 4 (fun _ => 0#32), acc.getD 3 (fun _ => 0#32), acc.getD 2 (fun _ => 0#32), acc.getD 1 (fun _ => 0#32), acc.getD 0 (fun _ => 0#32), 0#32, 1#32⟩) [4, 5, 6, 7, 8, 9, 10, 11, 12, 13, 14, 15, 16, 17, 18, 19, 20, 21, 22, 23, 24, 25, 26, 27, 28, 29, 30, 31] [] := by
  rw [k0_part15_eq_skeleton]; unfold k0_part15_skel
  simp only [Prog.bind_assoc]
  rfl

set_option maxRecDepth 65536 in
theorem part16_bind (i : grid0.Coords) (arg2 : Memref sig .scVector .hbm S65536x512 .f32) (harg2 : arg2.IsWhole) (arg3 : Memref sig .scVector .hbm S512 .i32) (harg3 : arg3.IsWhole) (arg4 : Memref sig .scVector .hbm S65536x512 .f32) (harg4 : arg4.IsWhole) (arg5 : Memref sig .scVector .vmem S512 .i32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S32x512 .f32) (harg8 : arg8.IsWhole) (arg9 : Memref sig .scVector .vmem S32x512 .f32) (harg9 : arg9.IsWhole) (arg10 : DmaSems sig S_) (arg11 : DmaSems sig S_) (arg12 : DmaSems sig S_) (arg13 : DmaSems sig S_) (v11_r0 : DmaSems sig S_) (v2 : BitVec 32) (k0_t1 : Fin k0_t1_loop.trips) (arg14 : BitVec 32) (v12 : BitVec 32) (v63 : Vec F S16 .i32) (v64 : Vec F S16 .i32) (v65 : Vec F S16 .i32) (v66 : Vec F S16 .i32) (v67 : Vec F S16 .i32) (v68 : Vec F S16 .i32) (v69 : Vec F S16 .i32) (v70 : Vec F S16 .i32) (v71 : Vec F S16 .i32) (v72 : Vec F S16 .i32) (v73 : Vec F S16 .i32) (v74 : Vec F S16 .i32) (v75 : Vec F S16 .i32) (v76 : Vec F S16 .i32) (v77 : Vec F S16 .i32) (v78 : Vec F S16 .i32) (v79 : Vec F S16 .i32) (v80 : Vec F S16 .i32) (v81 : Vec F S16 .i32) (v82 : Vec F S16 .i32) (v83 : Vec F S16 .i32) (v84 : Vec F S16 .i32) (v85 : Vec F S16 .i32) (v86 : Vec F S16 .i32) (v87 : Vec F S16 .i32) (v88 : Vec F S16 .i32) (v89 : Vec F S16 .i32) (v90 : Vec F S16 .i32) (v91 : Vec F S16 .i32) (v92 : Vec F S16 .i32) (v93 : Vec F S16 .i32) (v94 : Vec F S16 .i32) (c0_i32_64 : BitVec 32) (c1_i32_66 : BitVec 32) (K : (Σ' (v102 : BitVec 32) (v112 : Vec F S16 .i32) (v113 : Vec F S16 .i32) (v114 : Vec F S16 .i32) (v115 : Vec F S16 .i32) (v116 : Vec F S16 .i32) (v117 : Vec F S16 .i32) (v118 : Vec F S16 .i32) (v119 : Vec F S16 .i32) (v120 : Vec F S16 .i32) (v121 : Vec F S16 .i32), Vec F S16 .i32) → TP F i Unit) :
    (k0_part16 (F := F) i arg2 harg2 arg3 harg3 arg4 harg4 arg5 harg5 arg6 harg6 arg7 harg7 arg8 harg8 arg9 harg9 arg10 arg11 arg12 arg13 v11_r0 v2 k0_t1 arg14 v12 v63 v64 v65 v66 v67 v68 v69 v70 v71 v72 v73 v74 v75 v76 v77 v78 v79 v80 v81 v82 v83 v84 v85 v86 v87 v88 v89 v90 v91 v92 v93 v94 c0_i32_64 c1_i32_66 >>= K) =
      Scf.Loop.for k0_t3_loop k0_t3_ok ⟨⟩ (k0_t3_body (F := F) i arg2 harg2 arg3 harg3 arg4 harg4 arg5 harg5 arg6 harg6 arg7 harg7 arg8 harg8 arg9 harg9 arg10 arg11 arg12 arg13 v11_r0 v2 k0_t1 arg14 v12 v63 v64 v65 v66 v67 v68 v69 v70 v71 v72 v73 v74 v75 v76 v77 v78 v79 v80 v81 v82 v83 v84 v85 v86 v87 v88 v89 v90 v91 v92 v93 v94 c0_i32_64 c1_i32_66) >>= fun _ =>
        Prog.lift (.enqueueDma arg9 (.here (arg4.slice (Rect.unit (s := S65536x512) (k0_off68 i k0_t1) S32x512.size (k0_off68_inb i k0_t1)) (fun _ => rfl))) (.dma arg13.sem) harg9.wordExact
        (View.wordExact_bits rfl) ⟨Or.inl rfl, trivial⟩) >>= fun _ =>
        waitIn i arg2 arg7 harg7 arg11 >>= fun _ =>
        fetchNext i arg2 arg6 harg6 arg10 (k0_cond4 k0_t1) (k0_off69 i k0_t1) (k0_off69_inb i k0_t1) >>= fun _ =>
        waitOut i arg4 arg8 harg8 arg12 (Scalar.addi (Scalar.muli 2#32 arg14) 1#32) >>= fun _ =>
        loadsFrom i arg5 (fun acc => K ⟨(Scalar.addi (Scalar.muli 2#32 arg14) 1#32), acc.getD 10 (fun _ => 0#32), acc.getD 9 (fun _ => 0#32), acc.getD 8 (fun _ => 0#32), acc.getD 7 (fun _ => 0#32), acc.getD 6 (fun _ => 0#32), acc.getD 5 (fun _ => 0#32), acc.getD 4 (fun _ => 0#32), acc.getD 3 (fun _ => 0#32), acc.getD 2 (fun _ => 0#32), acc.getD 1 (fun _ => 0#32), acc.getD 0 (fun _ => 0#32)⟩) [0, 1, 2, 3, 4, 5, 6, 7, 8, 9, 10] [] := by
  rw [k0_part16_eq_skeleton]; unfold k0_part16_skel fetchNext waitOut
  by_cases h0 : k0_cond4 k0_t1 = 1#1 <;> by_cases h1 : (Scalar.cmpi .ne (Scalar.extui (Scalar.cmpi .sge (Scalar.addi (Scalar.muli 2#32 arg14) 1#32) 1#32) : BitVec 32) 0#32 : BitVec 1) = 1#1
  all_goals simp only [h0, h1, ↓reduceDIte, Prog.bind_assoc]
  all_goals rfl

set_option maxRecDepth 65536 in
theorem part17_bind (i : grid0.Coords) (arg2 : Memref sig .scVector .hbm S65536x512 .f32) (harg2 : arg2.IsWhole) (arg3 : Memref sig .scVector .hbm S512 .i32) (harg3 : arg3.IsWhole) (arg4 : Memref sig .scVector .hbm S65536x512 .f32) (harg4 : arg4.IsWhole) (arg5 : Memref sig .scVector .vmem S512 .i32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S32x512 .f32) (harg8 : arg8.IsWhole) (arg9 : Memref sig .scVector .vmem S32x512 .f32) (harg9 : arg9.IsWhole) (arg10 : DmaSems sig S_) (arg11 : DmaSems sig S_) (arg12 : DmaSems sig S_) (arg13 : DmaSems sig S_) (v11_r0 : DmaSems sig S_) (v2 : BitVec 32) (k0_t1 : Fin k0_t1_loop.trips) (v102 : BitVec 32) (v112 : Vec F S16 .i32) (v113 : Vec F S16 .i32) (v114 : Vec F S16 .i32) (v115 : Vec F S16 .i32) (v116 : Vec F S16 .i32) (v117 : Vec F S16 .i32) (v118 : Vec F S16 .i32) (v119 : Vec F S16 .i32) (v120 : Vec F S16 .i32) (v121 : Vec F S16 .i32) (v122 : Vec F S16 .i32) (K : (BitVec 32) → TP F i Unit) :
    (k0_part17 (F := F) i arg2 harg2 arg3 harg3 arg4 harg4 arg5 harg5 arg6 harg6 arg7 harg7 arg8 harg8 arg9 harg9 arg10 arg11 arg12 arg13 v11_r0 v2 k0_t1 v102 v112 v113 v114 v115 v116 v117 v118 v119 v120 v121 v122 >>= K) =
      loadsFrom i arg5 (fun acc =>
        Scf.Loop.for k0_t4_loop k0_t4_ok ⟨⟩ (k0_t4_body (F := F) i arg2 harg2 arg3 harg3 arg4 harg4 arg5 harg5 arg6 harg6 arg7 harg7 arg8 harg8 arg9 harg9 arg10 arg11 arg12 arg13 v11_r0 v2 k0_t1 v102 v112 v113 v114 v115 v116 v117 v118 v119 v120 v121 v122 (acc.getD 20 (fun _ => 0#32)) (acc.getD 19 (fun _ => 0#32)) (acc.getD 18 (fun _ => 0#32)) (acc.getD 17 (fun _ => 0#32)) (acc.getD 16 (fun _ => 0#32)) (acc.getD 15 (fun _ => 0#32)) (acc.getD 14 (fun _ => 0#32)) (acc.getD 13 (fun _ => 0#32)) (acc.getD 12 (fun _ => 0#32)) (acc.getD 11 (fun _ => 0#32)) (acc.getD 10 (fun _ => 0#32)) (acc.getD 9 (fun _ => 0#32)) (acc.getD 8 (fun _ => 0#32)) (acc.getD 7 (fun _ => 0#32)) (acc.getD 6 (fun _ => 0#32)) (acc.getD 5 (fun _ => 0#32)) (acc.getD 4 (fun _ => 0#32)) (acc.getD 3 (fun _ => 0#32)) (acc.getD 2 (fun _ => 0#32)) (acc.getD 1 (fun _ => 0#32)) (acc.getD 0 (fun _ => 0#32))) >>= fun _ =>
        Prog.lift (.enqueueDma arg8 (.here (arg4.slice (Rect.unit (s := S65536x512) (k0_off102 i k0_t1) S32x512.size (k0_off102_inb i k0_t1)) (fun _ => rfl))) (.dma arg12.sem) harg8.wordExact
        (View.wordExact_bits rfl) ⟨Or.inl rfl, trivial⟩) >>= fun _ =>
        K (Scalar.extui (Scalar.cmpi .sge v102 1#32))) [11, 12, 13, 14, 15, 16, 17, 18, 19, 20, 21, 22, 23, 24, 25, 26, 27, 28, 29, 30, 31] [] := by
  rw [k0_part17_eq_skeleton]; unfold k0_part17_skel
  simp only [Prog.bind_assoc]
  rfl

set_option maxRecDepth 65536 in
theorem part18_bind (i : grid0.Coords) (arg2 : Memref sig .scVector .hbm S65536x512 .f32) (harg2 : arg2.IsWhole) (arg3 : Memref sig .scVector .hbm S512 .i32) (harg3 : arg3.IsWhole) (arg4 : Memref sig .scVector .hbm S65536x512 .f32) (harg4 : arg4.IsWhole) (arg5 : Memref sig .scVector .vmem S512 .i32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S32x512 .f32) (harg8 : arg8.IsWhole) (arg9 : Memref sig .scVector .vmem S32x512 .f32) (harg9 : arg9.IsWhole) (arg10 : DmaSems sig S_) (arg11 : DmaSems sig S_) (arg12 : DmaSems sig S_) (arg13 : DmaSems sig S_) (v11_r0 : DmaSems sig S_) (v151 : BitVec 32) (K : (Σ' (v153 : Vec F S16 .i32) (v154 : Vec F S16 .i32) (v155 : Vec F S16 .i32) (v156 : Vec F S16 .i32) (v157 : Vec F S16 .i32) (v158 : Vec F S16 .i32) (v159 : Vec F S16 .i32) (v160 : Vec F S16 .i32) (v161 : Vec F S16 .i32) (v162 : Vec F S16 .i32) (v163 : Vec F S16 .i32) (v164 : Vec F S16 .i32) (v165 : Vec F S16 .i32) (v166 : Vec F S16 .i32) (v167 : Vec F S16 .i32) (v168 : Vec F S16 .i32) (v169 : Vec F S16 .i32) (v170 : Vec F S16 .i32) (v171 : Vec F S16 .i32) (v172 : Vec F S16 .i32) (v173 : Vec F S16 .i32) (v174 : Vec F S16 .i32) (v175 : Vec F S16 .i32) (v176 : Vec F S16 .i32) (v177 : Vec F S16 .i32) (v178 : Vec F S16 .i32) (v179 : Vec F S16 .i32), Vec F S16 .i32) → TP F i Unit) :
    (k0_part18 (F := F) i arg2 harg2 arg3 harg3 arg4 harg4 arg5 harg5 arg6 harg6 arg7 harg7 arg8 harg8 arg9 harg9 arg10 arg11 arg12 arg13 v11_r0 v151 >>= K) =
      (if _h : (Scalar.cmpi .ne v151 0#32 : BitVec 1) = 1#1 then do
          Prog.lift (.waitDma2 arg13.sem arg9 (arg4.slice (Rect.unit (s := S65536x512) ![0, 0] S32x512.size inb_S65536x512_S32x512_0_0) (fun _ => rfl)) harg9.wordExact (View.wordExact_bits rfl))
          pure ⟨⟩
        else do
          pure ⟨⟩ : TP F i Unit) >>= fun _ =>
        loadsFrom i arg5 (fun acc => K ⟨acc.getD 27 (fun _ => 0#32), acc.getD 26 (fun _ => 0#32), acc.getD 25 (fun _ => 0#32), acc.getD 24 (fun _ => 0#32), acc.getD 23 (fun _ => 0#32), acc.getD 22 (fun _ => 0#32), acc.getD 21 (fun _ => 0#32), acc.getD 20 (fun _ => 0#32), acc.getD 19 (fun _ => 0#32), acc.getD 18 (fun _ => 0#32), acc.getD 17 (fun _ => 0#32), acc.getD 16 (fun _ => 0#32), acc.getD 15 (fun _ => 0#32), acc.getD 14 (fun _ => 0#32), acc.getD 13 (fun _ => 0#32), acc.getD 12 (fun _ => 0#32), acc.getD 11 (fun _ => 0#32), acc.getD 10 (fun _ => 0#32), acc.getD 9 (fun _ => 0#32), acc.getD 8 (fun _ => 0#32), acc.getD 7 (fun _ => 0#32), acc.getD 6 (fun _ => 0#32), acc.getD 5 (fun _ => 0#32), acc.getD 4 (fun _ => 0#32), acc.getD 3 (fun _ => 0#32), acc.getD 2 (fun _ => 0#32), acc.getD 1 (fun _ => 0#32), acc.getD 0 (fun _ => 0#32)⟩) [0, 1, 2, 3, 4, 5, 6, 7, 8, 9, 10, 11, 12, 13, 14, 15, 16, 17, 18, 19, 20, 21, 22, 23, 24, 25, 26, 27] [] := by
  rw [k0_part18_eq_skeleton]; unfold k0_part18_skel
  by_cases h0 : (Scalar.cmpi .ne v151 0#32 : BitVec 1) = 1#1
  all_goals simp only [h0, ↓reduceDIte, Prog.bind_assoc]
  all_goals rfl

end Cert.Proof.Rows

end
-- ==== Proof.Body.lean ====
module

public import proofs.«01_k».proof.Proof.Text
public import proofs.«01_k».proof.Proof.Gen.KernelIdeal.Skeleton

@[expose] public section

noncomputable section

namespace Cert.Proof.Rows

open Cert.KernelIdeal Cert.KernelIdeal.Gen
open Idealize.ShloMosaic Idealize.SL.Sem

variable {F : FTy → Type} [FloatOps F]

set_option maxRecDepth 65536 in
set_option maxHeartbeats 4000000 in
/-- The outer loop's body is the trip. -/
theorem t1_eq (i : grid0.Coords) (arg2 : Memref sig .scVector .hbm S65536x512 .f32) (harg2 : arg2.IsWhole) (arg3 : Memref sig .scVector .hbm S512 .i32) (harg3 : arg3.IsWhole) (arg4 : Memref sig .scVector .hbm S65536x512 .f32) (harg4 : arg4.IsWhole) (arg5 : Memref sig .scVector .vmem S512 .i32) (harg5 : arg5.IsWhole) (arg6 : Memref sig .scVector .vmem S64x512 .f32) (harg6 : arg6.IsWhole) (arg7 : Memref sig .scVector .vmem S64x512 .f32) (harg7 : arg7.IsWhole) (arg8 : Memref sig .scVector .vmem S32x512 .f32) (harg8 : arg8.IsWhole) (arg9 : Memref sig .scVector .vmem S32x512 .f32) (harg9 : arg9.IsWhole) (arg10 : DmaSems sig S_) (arg11 : DmaSems sig S_) (arg12 : DmaSems sig S_) (arg13 : DmaSems sig S_) (v11_r0 : DmaSems sig S_) :
    k0_t1_body (F := F) i arg2 harg2 arg3 harg3 arg4 harg4 arg5 harg5 arg6 harg6 arg7 harg7 arg8 harg8 arg9 harg9 arg10 arg11 arg12 arg13 v11_r0 (Scalar.muli (Scalar.addi (Scalar.muli (BitVec.ofNat 32 (i 1).val) 2#32) (BitVec.ofNat 32 (i 0).val)) 2048#32)
      = fun t _ => trip (F := F) i arg2 arg4 arg5 arg6 harg6 arg7 harg7 arg8 harg8 arg9 harg9 arg10 arg11 arg12 arg13 t := by
  funext t u
  simp only [k0_t1_body, part13_bind, part14_bind, part15_bind, part16_bind, part17_bind, part18_bind]
  rfl

end Cert.Proof.Rows

end
-- ==== Proof.Tile.lean ====
module

public import proofs.«01_k».proof.Proof.Trip
public import proofs.«01_k».proof.Proof.Body

@[expose] public section

noncomputable section

namespace Cert.Proof.Permute

open Cert.KernelIdeal Cert.KernelIdeal.Gen Cert.Proof.Rows

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A tile's own buffers and semaphores -/

abbrev pV : Memref sig .scVector .hbm S512 .i32 := Memref.whole main_arg1_scv

/-- The part `t` of a family taken out of it. -/
theorem carve {I : Type} [DecidableEq I] {s t : Finset I} (h : t ⊆ s) (Φ : I → sProp 𝕄) :
    bigSep s Φ = iprop(bigSep t Φ ∗ bigSep (s \ t) Φ) := by
  rw [← SparseCore.bigSep_union' Finset.disjoint_sdiff, Finset.union_sdiff_of_subset h]

def semSet : Finset (SemLoc sig) :=
  {.dma cc0_scratch5.sem, .dma cc0_scratch6.sem, .dma cc0_scratch7.sem, .dma cc0_scratch8.sem, .dma cc0_scoped0.sem}
def bufSet : Finset (Ref sig .scVector) := {cc0_scratch0, cc0_scratch1, cc0_scratch2, cc0_scratch3, cc0_scratch4}

theorem semSet_scoped : ∀ s ∈ semSet, s.isScoped .scVector = true := by decide +kernel

variable (d : Dev nD) (L : grid0.Coords)

/-- The tile's semaphores other than the kernel's five; its buffers other than the kernel's five. -/
def restSems : sProp 𝕄 :=
  bigSep (SparseCore.Cfg.ownCells (thr d L) \ semSet.image fun s => (thr d L, s)) fun g => semVal g 0
def restBufs : sProp 𝕄 :=
  bigSep (SparseCore.Cfg.ownRefs (thr d L).2 \ bufSet.image fun b => (thr d L).2.devRef b) fun b => iprop(∃ f, ((d, b) : Loc nD τ sig) ↦{fullShare} f)

theorem ownSems0_thr : (SparseCore.Cfg.ownSems0 (thr d L) : sProp 𝕄)
    = iprop((semVal (thr d L, .dma cc0_scratch5.sem) 0 ∗ semVal (thr d L, .dma cc0_scratch6.sem) 0 ∗ semVal (thr d L, .dma cc0_scratch7.sem) 0
        ∗ semVal (thr d L, .dma cc0_scratch8.sem) 0 ∗ semVal (thr d L, .dma cc0_scoped0.sem) 0) ∗ restSems d L) := by
  unfold SparseCore.Cfg.ownSems0 restSems
  rw [carve (t := semSet.image fun s => (thr d L, s)), SparseCore.bigSep_image_of_injOn (fun a _ b _ h => congrArg Prod.snd h)]
  · unfold semSet
    rw [SparseCore.bigSep_insert' (by decide), SparseCore.bigSep_insert' (by decide), SparseCore.bigSep_insert' (by decide),
      SparseCore.bigSep_insert' (by decide), bigSep_singleton]
  · intro g hg
    obtain ⟨s, hs, rfl⟩ := Finset.mem_image.mp hg
    exact SparseCore.Cfg.mem_ownCells.mpr ⟨rfl, semSet_scoped s hs⟩

theorem bufSet_owner : ∀ b ∈ bufSet, ((thr d L).2.devRef b).owner = .proc (thr d L).2 := by
  intro b hb
  simp only [bufSet, Finset.mem_insert, Finset.mem_singleton] at hb
  rcases hb with rfl | rfl | rfl | rfl | rfl <;> rfl

theorem bigSep_bufSet (Φ : Ref sig .scVector → sProp 𝕄) :
    bigSep bufSet Φ = iprop(Φ cc0_scratch0 ∗ Φ cc0_scratch1 ∗ Φ cc0_scratch2 ∗ Φ cc0_scratch3 ∗ Φ cc0_scratch4) := by
  unfold bufSet
  rw [SparseCore.bigSep_insert' (by decide), SparseCore.bigSep_insert' (by decide), SparseCore.bigSep_insert' (by decide),
    SparseCore.bigSep_insert' (by decide), bigSep_singleton]

theorem ownBufs_thr : (SparseCore.Cfg.ownBufs (thr d L) : sProp 𝕄)
    = iprop(((∃ f, sP.view.loc (thr d L) ↦{fullShare} f) ∗ (∃ f, inA.view.loc (thr d L) ↦{fullShare} f) ∗ (∃ f, inB.view.loc (thr d L) ↦{fullShare} f)
        ∗ (∃ f, outA.view.loc (thr d L) ↦{fullShare} f) ∗ (∃ f, outB.view.loc (thr d L) ↦{fullShare} f)) ∗ restBufs d L) := by
  unfold SparseCore.Cfg.ownBufs restBufs
  rw [carve (t := bufSet.image fun b => (thr d L).2.devRef b), SparseCore.bigSep_image_of_injOn (fun a _ b _ h => Proc.devRef_injective _ h)]
  · rw [bigSep_bufSet (F := F) fun b => iprop(∃ f, ((thr d L).1, (thr d L).2.devRef b) ↦{fullShare} f)]
  · intro g hg
    obtain ⟨b, hb, rfl⟩ := Finset.mem_image.mp hg
    exact SparseCore.Cfg.mem_ownRefs_of_owner (bufSet_owner d L b hb)

/-! ## The tile's program -/

variable (w : S512.Idx → BitVec 32) (fx : S65536x512.Idx → Elt F .f32) (fo : S65536x512.Idx → Elt F .f32)
variable (O : CellTallies nD τ sig (HIx 1)) (W : Waits sig (HIx 1))

/-- The permutation is fetched, at the head of a program. -/
theorem perm_wp {Q : Unit → sProp 𝕄} (q : PosShare TreeShare) (k : PUnit → TP F L Unit) :
    (iprop(Transfers.MayWaits (thr d L) none O ∗ (pLoc d ↦{q} w) ∗ (∃ f, sP.view.loc (thr d L) ↦{fullShare} f) ∗ semVal (thr d L, .dma cc0_scoped0.sem) 0 ∗ Ow d L O W) : sProp 𝕄)
      ⊢ iprop((iprop((pLoc d ↦{q} w) ∗ (sP.view.loc (thr d L) ↦{fullShare} w) ∗ semVal (thr d L, .dma cc0_scoped0.sem) 0 ∗ Ow d L O W) -∗ WP d L (k ⟨⟩) Q)
        -∗ WP d L (.op (.enqueueDma pV (.here sP) (.dma cc0_scoped0.sem) (Memref.isWhole_whole _).wordExact (Memref.isWhole_whole _).wordExact ⟨Or.inl rfl, trivial⟩)
            fun _ => .op (.waitDma2 cc0_scoped0.sem pV sP (Memref.isWhole_whole _).wordExact (Memref.isWhole_whole _).wordExact) k) Q) := by
  iintro ⟨#Hm, Hp, ⟨%f, Hs⟩, Hv, HO⟩ HK
  iapply (Transfers.wp_dmaLocal EC 𝒱₀ (thr d L) none (src := pV) (dst := sP) (q := q) (fs := w) (fd := f) (Sd := Finset.univ)
      none sP.view.dmaCredit rfl (View.dmaCredit_pos _ (by decide)) (Finset.subset_univ _)) $$ [Hp Hs Hv]
  · isplitl [Hp]
    · rw [show pV.view.set = Finset.univ from View.set_whole _]; iexact Hp
    isplitl [Hs] <;> iassumption
  iintro Hf
  ihave HO := (Ow.elim d L O W) $$ HO
  icases HO with ⟨%W', %hW', HO⟩
  iapply (Transfers.wp_waitLocalO EC 𝒱₀ (thr d L) none none (N := sP.view.dmaCredit) rfl) $$ [Hf HO]
  · isplitl [Hf]; · iexact Hf
    isplitl [HO]; · iexact HO
    iapply (Transfers.MayWaits.elim (.dma cc0_scoped0.sem)); iexact Hm
  iintro ⟨⟨Hs, Hp⟩, Hv, HO⟩
  iapply HK
  isplitl [Hp]
  · rw [show pV.view.set = Finset.univ from View.set_whole _]; iexact Hp
  isplitl [Hs]
  · rw [show sP.view.write (Elt F) f (pV.view.read (Elt F) w) Finset.univ = w from View.write_whole_univ _ _ _]; iexact Hs
  isplitl [Hv]; · iexact Hv
  iapply (Ow.insert d L O W W' hW'); iexact HO

/-- The last wait for a half-buffer, at the head of a program. -/
theorem last_wp {Q : Unit → sProp 𝕄} (dst : OutBuf) (hdst : dst.IsWhole) (sem : DmaSems sig S_) {p : Bool} (hp : p = true) {a lo hi : ℕ} (h : a ≤ lo) (h' : lo ≤ hi)
    (k : PUnit → TP F L Unit) :
    (iprop(Transfers.MayWaits (thr d L) none O ∗ Pend d L w fx dst sem p lo hi ∗ oRows d a lo (outVal w fx) ∗ Ow d L O W) : sProp 𝕄)
      ⊢ iprop((iprop(Idle d L dst sem ∗ oRows d a hi (outVal w fx) ∗ Ow d L O W) -∗ WP d L (k ⟨⟩) Q)
        -∗ WP d L (.op (.waitDma2 sem.sem dst (oV.slice (Rect.unit (s := S65536x512) ![0, 0] S32x512.size inb_S65536x512_S32x512_0_0) (fun _ => rfl))
            hdst.wordExact (View.wordExact_bits rfl)) k) Q) := by
  subst hp
  unfold Pend
  simp only [↓reduceIte]
  iintro ⟨#Hm, Hf, Ho, HO⟩ HK
  ihave HO := (Ow.elim d L O W) $$ HO
  icases HO with ⟨%W', %hW', HO⟩
  iapply (Transfers.wp_waitLocalO EC 𝒱₀ (thr d L) none none (N := NO) rfl) $$ [Hf HO]
  · isplitl [Hf]; · iexact Hf
    isplitl [HO]; · iexact HO
    iapply (Transfers.MayWaits.elim (.dma sem.sem)); iexact Hm
  iintro ⟨⟨Hd, Hr⟩, Hv, HO⟩
  iapply HK
  unfold Idle
  isplitl [Hd Hv]
  · isplitl [Hd] <;> iassumption
  isplitl [Ho Hr]
  · iapply (oRows_split d (outVal w fx) h h').2
    isplitl [Ho] <;> iassumption
  · iapply (Ow.insert d L O W W' hW'); iexact HO

theorem trip_keeps (hw : ∀ j, (w j).toNat < 512) (t : Fin k0_t1_loop.trips) :
    (iprop(Transfers.MayWaits (thr d L) none O ∗ Inv d L w fx fo O W t.val) : sProp 𝕄)
      ⊢ WP d L (trip L xV oV sP inA (Memref.isWhole_whole _) inB (Memref.isWhole_whole _) outA (Memref.isWhole_whole _) outB (Memref.isWhole_whole _)
          cc0_scratch5 cc0_scratch6 cc0_scratch7 cc0_scratch8 t)
        fun _ => iprop(Transfers.MayWaits (thr d L) none O ∗ Inv d L w fx fo O W (t.val + 1)) := by
  iintro ⟨#Hm, H⟩
  iapply (wp_wand_r frame _ _)
  isplitl [H]
  · iapply (trip_wp d L w fx fo O W hw t)
    isplitr; · iexact Hm
    iexact H
  iintro %_ H
  isplitr; · iexact Hm
  iexact H

theorem Ow.start : (owes (thr d L) O W : sProp 𝕄) ⊢ Ow d L O W := by
  unfold Ow
  iintro H
  iexists W
  isplitr [H]
  · ipureintro; exact fun p hp => .inl hp
  · iexact H

theorem xRows_none {lo hi : ℕ} (h : hi ≤ lo) : (xRows d lo hi fx : sProp 𝕄) = iprop(emp) := by
  unfold xRows; rw [rowsIn_empty h]; exact pointsTo_empty
theorem oRows_none {lo hi : ℕ} (h : hi ≤ lo) (f : S65536x512.Idx → Elt F .f32) : (oRows d lo hi f : sProp 𝕄) = iprop(emp) := by
  unfold oRows; rw [rowsIn_empty h]; exact pointsTo_empty

theorem Inv_zero : (iprop((sP.view.loc (thr d L) ↦{fullShare} w) ∗ (Fetching d L fx inA cc0_scratch5 (base L) ∗ xRows d (base L + 64) (base L + 2048) fx)
    ∗ Idle d L inB cc0_scratch6 ∗ Idle d L outA cc0_scratch7 ∗ Idle d L outB cc0_scratch8 ∗ oRows d (base L) (base L + 2048) fo ∗ Ow d L O W) : sProp 𝕄)
      ⊢ Inv d L w fx fo O W 0 := by
  unfold Inv Ahead Pend
  simp only [Nat.mul_zero, Nat.zero_sub, Nat.add_zero, Nat.lt_irrefl, decide_false, Nat.zero_lt_succ, Nat.ofNat_pos, decide_true, ↓reduceIte, Bool.false_eq_true]
  rw [xRows_none d fx (le_refl (base L)), oRows_none d (le_refl (base L))]
  iintro ⟨Hp, HA, HB, HoA, HoB, Hot, HO⟩
  isplitl [Hp]; · iexact Hp
  isplitr; · iempintro
  isplitl [HA]; · iexact HA
  isplitl [HB]; · iexact HB
  isplitr; · iempintro
  isplitl [HoA]; · iexact HoA
  isplitl [HoB]; · iexact HoB
  isplitl [Hot] <;> iassumption

theorem Inv_end {n : ℕ} (hn : n = 16) : (Inv d L w fx fo O W n : sProp 𝕄)
      ⊢ iprop((sP.view.loc (thr d L) ↦{fullShare} w) ∗ xRows d (base L) (base L + 2048) fx ∗ Idle d L inA cc0_scratch5 ∗ Idle d L inB cc0_scratch6
        ∗ oRows d (base L) (base L + 1984) (outVal w fx) ∗ Pend d L w fx outA cc0_scratch7 true (base L + 1984) (base L + 2016)
        ∗ Pend d L w fx outB cc0_scratch8 true (base L + 2016) (base L + 2048) ∗ Ow d L O W) := by
  subst hn
  unfold Inv Ahead
  simp only [show 128 * 16 = 2048 from rfl, show (2048 - 64) = 1984 from rfl, show (2048 - 32) = 2016 from rfl, show decide (0 < 16) = true from rfl,
    show decide (16 < 16) = false from rfl, ↓reduceIte, Bool.false_eq_true]
  iintro ⟨Hp, Hx, ⟨HA, -⟩, HB, Hod, HoA, HoB, -, HO⟩
  isplitl [Hp]; · iexact Hp
  isplitl [Hx]; · iexact Hx
  isplitl [HA]; · iexact HA
  isplitl [HB]; · iexact HB
  isplitl [Hod]; · iexact Hod
  isplitl [HoA]; · iexact HoA
  isplitl [HoB] <;> iassumption

theorem tile_body (q : PosShare TreeShare) (hw : ∀ j, (w j).toNat < 512) (hO : ∀ g, O g none = 0) :
    (iprop(levAts (K (F := F)).L (K (F := F)).lev ∗ (xRows d (base L) (base L + 2048) fx ∗ (pLoc d ↦{q} w) ∗ oRows d (base L) (base L + 2048) fo)
        ∗ scopedBufs (thr d L) ∗ scopedSems0 (thr d L) ∗ owes (thr d L) O W) : sProp 𝕄)
      ⊢ WP d L (cc0__permute_sc L xV (Memref.isWhole_whole _) pV (Memref.isWhole_whole _) oV (Memref.isWhole_whole _) sP (Memref.isWhole_whole _)
          inA (Memref.isWhole_whole _) inB (Memref.isWhole_whole _) outA (Memref.isWhole_whole _) outB (Memref.isWhole_whole _)
          cc0_scratch5 cc0_scratch6 cc0_scratch7 cc0_scratch8 cc0_scoped0)
        fun _ => iprop((xRows d (base L) (base L + 2048) fx ∗ (pLoc d ↦{q} w) ∗ oRows d (base L) (base L + 2048) (outVal w fx))
          ∗ scopedBufs (thr d L) ∗ scopedSems0 (thr d L) ∗ ∃ W', ⌜∀ p ∈ W', p ∈ W ∨ p.2 = none⌝ ∗ owes (thr d L) O W') := by
  rw [cc0__permute_sc_eq_skeleton]
  unfold cc0__permute_sc_skel
  simp only [t1_eq, Prog.lift, Prog.bind_op, Prog.bind_ret, Prog.pure_eq_ret]
  rw [(K (F := F)).scopedBufs_V facts d (cV L) (jV L), SparseCore.Cfg.scopedSems0_V (Val := Elt F) d (cV L) (jV L), ownSems0_thr, ownBufs_thr]
  iintro ⟨#Hlv, ⟨Hx, Hp, Ho⟩, ⟨⟨HsP, HinA, HinB, HoA, HoB⟩, Hbufs⟩, ⟨⟨Hv5, Hv6, Hv7, Hv8, Hv0⟩, Hsems⟩, HO⟩
  ihave #Hm := ((K (F := F)).mayWaits_none (thr := thr d L) hO) $$ Hlv
  ihave HO := (Ow.start d L O W) $$ HO
  iapply (perm_wp d L w O W q _) $$ [Hp HsP Hv0 HO]
  · isplitr; · iexact Hm
    isplitl [Hp]; · iexact Hp
    isplitl [HsP]; · iexact HsP
    isplitl [Hv0] <;> iassumption
  iintro ⟨Hp, HsP, Hv0, HO⟩
  iapply (fetch_wp d L fx inA (Memref.isWhole_whole _) cc0_scratch5 (r := base L) (r' := base L + 64) (e := base L + 2048) (k0_off1_eq L) (k0_off1_inb L) rfl (by omega) _) $$ [HinA Hv5 Hx]
  · isplitl [HinA Hv5]
    · unfold Idle
      isplitl [HinA] <;> iassumption
    · iexact Hx
  iintro HA
  iapply (Scf.wp_for_bind frame (wpE (defs₀ (F := F)) 𝒱₀ (thr d L) none) Set.univ _ _ _ _ _ _
      (fun n _ => iprop(Transfers.MayWaits (thr d L) none O ∗ Inv d L w fx fo O W n)) (fun t _ => trip_keeps d L w fx fo O W hw t)) $$ [HA HsP HinB Hv6 HoA Hv7 HoB Hv8 Ho HO]
  · isplitr; · iexact Hm
    iapply (Inv_zero d L w fx fo O W)
    unfold Idle
    isplitl [HsP]; · iexact HsP
    isplitl [HA]; · iexact HA
    isplitl [HinB Hv6]; · isplitl [HinB] <;> iassumption
    isplitl [HoA Hv7]; · isplitl [HoA] <;> iassumption
    isplitl [HoB Hv8]; · isplitl [HoB] <;> iassumption
    isplitl [Ho] <;> iassumption
  iintro %_ ⟨-, HI⟩
  ihave HI := (Inv_end d L w fx fo O W (show k0_t1_loop.trips = 16 by decide)) $$ HI
  icases HI with ⟨HsP, Hx, HA, HB, Ho, HoA, HoB, HO⟩
  iapply (last_wp d L w fx O W outA (Memref.isWhole_whole _) cc0_scratch7 rfl (a := base L) (lo := base L + 1984) (hi := base L + 2016) (by omega) (by omega) _) $$ [HoA Ho HO]
  · isplitr; · iexact Hm
    isplitl [HoA]; · iexact HoA
    isplitl [Ho] <;> iassumption
  iintro ⟨HoA, Ho, HO⟩
  iapply (last_wp d L w fx O W outB (Memref.isWhole_whole _) cc0_scratch8 rfl (a := base L) (lo := base L + 2016) (hi := base L + 2048) (by omega) (by omega) _) $$ [HoB Ho HO]
  · isplitr; · iexact Hm
    isplitl [HoB]; · iexact HoB
    isplitl [Ho] <;> iassumption
  iintro ⟨HoB, Ho, HO⟩
  simp only [wp_ret]
  imodintro
  unfold Idle
  icases HA with ⟨HinA, Hv5⟩
  icases HB with ⟨HinB, Hv6⟩
  icases HoA with ⟨HoA, Hv7⟩
  icases HoB with ⟨HoB, Hv8⟩
  isplitl [Hx Hp Ho]
  · isplitl [Hx]; · iexact Hx
    isplitl [Hp] <;> iassumption
  isplitl [HsP HinA HinB HoA HoB Hbufs]
  · isplitr [Hbufs]
    · isplitl [HsP]; · iexists w; iexact HsP
      isplitl [HinA]; · iexact HinA
      isplitl [HinB]; · iexact HinB
      isplitl [HoA] <;> iassumption
    · iexact Hbufs
  isplitl [Hv5 Hv6 Hv7 Hv8 Hv0 Hsems]
  · isplitr [Hsems]
    · isplitl [Hv5]; · iexact Hv5
      isplitl [Hv6]; · iexact Hv6
      isplitl [Hv7]; · iexact Hv7
      isplitl [Hv8] <;> iassumption
    · iexact Hsems
  iapply (Ow.elim d L O W); iexact HO

end Cert.Proof.Permute

end
-- ==== Proof.Launch.lean ====
module

public import proofs.«01_k».proof.Proof.Tile

@[expose] public section

noncomputable section

namespace Cert.Proof.Permute

open Cert.KernelIdeal Cert.KernelIdeal.Gen Cert.Proof.Rows

open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## How the arrays split among the tiles -/

theorem cores (q : Fin 1) : (K (F := F)).nCore q = 2 := match q with | 0 => rfl
theorem tiles (q : Fin 1) : (K (F := F)).nSub q = 16 := match q with | 0 => rfl

/-- The first row of tile `i` of SparseCore `c`. -/
def first (c : Fin 2) (i : Fin 16) : ℕ := 4096 * i.val + 2048 * c.val
/-- The rows of a tile. -/
abbrev own (c : Fin 2) (i : Fin 16) : Finset S65536x512.Idx := rowsIn (first c i) (first c i + 2048)

omit [FloatOps F] in
theorem own_disjoint (c : Fin 2) : ∀ i ∈ (Finset.univ : Finset (Fin 16)), ∀ j ∈ (Finset.univ : Finset (Fin 16)), i ≠ j → Disjoint (own c i) (own c j) := by
  intro i _ j _ h
  have h' : i.val ≠ j.val := fun e => h (Fin.ext e)
  refine Finset.disjoint_left.mpr fun x hx hx' => ?_
  rw [mem_rowsIn] at hx hx'
  unfold first at hx hx'
  omega

omit [FloatOps F] in
theorem core_disjoint : ∀ c ∈ (Finset.univ : Finset (Fin 2)), ∀ c' ∈ (Finset.univ : Finset (Fin 2)), c ≠ c' →
    Disjoint ((Finset.univ : Finset (Fin 16)).biUnion (own c)) ((Finset.univ : Finset (Fin 16)).biUnion (own c')) := by
  intro c _ c' _ h
  have h' : c.val ≠ c'.val := fun e => h (Fin.ext e)
  refine Finset.disjoint_left.mpr fun x hx hx' => ?_
  obtain ⟨i, -, hx⟩ := Finset.mem_biUnion.mp hx
  obtain ⟨j, -, hx'⟩ := Finset.mem_biUnion.mp hx'
  rw [mem_rowsIn] at hx hx'
  unfold first at hx hx'
  have := c.isLt; have := c'.isLt
  omega

omit [FloatOps F] in
theorem own_cover : (Finset.univ : Finset (Fin 2)).biUnion (fun c => (Finset.univ : Finset (Fin 16)).biUnion (own c)) = Finset.univ := by
  refine Finset.eq_univ_of_forall fun x => ?_
  have hx : (x 0).val < 65536 := (x 0).isLt
  refine Finset.mem_biUnion.mpr ⟨⟨(x 0).val / 2048 % 2, Nat.mod_lt _ (by decide)⟩, Finset.mem_univ _,
    Finset.mem_biUnion.mpr ⟨⟨(x 0).val / 4096, by omega⟩, Finset.mem_univ _, ?_⟩⟩
  rw [mem_rowsIn]
  unfold first
  dsimp only
  omega

theorem xSplit (d : Dev nD) (f : S65536x512.Idx → Elt F .f32) :
    (xLoc d ↦{fullShare} f : sProp 𝕄)
      = bigSep Finset.univ fun c : Fin 2 => bigSep Finset.univ fun i : Fin 16 => xRows d (first c i) (first c i + 2048) f := by
  rw [bigSep_congr fun c _ => (pointsTo_biUnion Finset.univ (ℓ := xLoc d) (own c) (own_disjoint c)).symm,
    ← pointsTo_biUnion Finset.univ (ℓ := xLoc d) (fun c => (Finset.univ : Finset (Fin 16)).biUnion (own c)) core_disjoint, own_cover]

theorem oSplit (d : Dev nD) (f : S65536x512.Idx → Elt F .f32) :
    (oLoc d ↦{fullShare} f : sProp 𝕄)
      = bigSep Finset.univ fun c : Fin 2 => bigSep Finset.univ fun i : Fin 16 => oRows d (first c i) (first c i + 2048) f := by
  rw [bigSep_congr fun c _ => (pointsTo_biUnion Finset.univ (ℓ := oLoc d) (own c) (own_disjoint c)).symm,
    ← pointsTo_biUnion Finset.univ (ℓ := oLoc d) (fun c => (Finset.univ : Finset (Fin 16)).biUnion (own c)) core_disjoint, own_cover]

/-- The share of the permutation that a tile reads with. -/
def readShare (c : Fin 2) (i : Fin 16) : PosShare TreeShare :=
  Transfers.dealOf (Transfers.dealOf fullShare Finset.univ c) Finset.univ i

theorem pSplit (d : Dev nD) (w : S512.Idx → BitVec 32) :
    (pLoc d ↦{fullShare} w : sProp 𝕄)
      = bigSep Finset.univ fun c : Fin 2 => bigSep Finset.univ fun i : Fin 16 => pLoc d ↦{readShare c i} w := by
  rw [Transfers.pointsTo_deal (Finset.univ : Finset (Fin 2)) Finset.univ_nonempty]
  exact bigSep_congr fun c _ => Transfers.pointsTo_deal (Finset.univ : Finset (Fin 16)) Finset.univ_nonempty _

/-! ## What the call carries -/

variable (m : (ℓ : Loc nD τ sig) → Buf (Elt F) ℓ) (ρ : Dev nD → PrngReg)

/-- What tile `i` of SparseCore `c` works on: its rows of the input, a share of the permutation, its rows of the result. -/
abbrev share (d : Dev nD) (g : S65536x512.Idx → Elt F .f32) (c : Fin 2) (i : Fin 16) : sProp 𝕄 :=
  iprop(xRows d (first c i) (first c i + 2048) (m (xLoc d)) ∗ (pLoc d ↦{readShare c i} m (pLoc d)) ∗ oRows d (first c i) (first c i + 2048) g)

/-- What the result holds at the end. -/
abbrev result (d : Dev nD) : S65536x512.Idx → Elt F .f32 := outVal (m (pLoc d)) (m (xLoc d))

theorem share_all (d : Dev nD) (g : S65536x512.Idx → Elt F .f32) :
    (bigSep Finset.univ fun c : Fin 2 => bigSep Finset.univ fun i : Fin 16 => share m d g c i)
      = (iprop((xLoc d ↦{fullShare} m (xLoc d)) ∗ (pLoc d ↦{fullShare} m (pLoc d)) ∗ (oLoc d ↦{fullShare} g)) : sProp 𝕄) := by
  rw [xSplit, pSplit, oSplit]
  simp only [share, bigSep_sep']

def P : (K (F := F)).Pay (nD := nD) (Val := Elt F) (Name := ℕ) (U := UU) where
  st q d c := bigSep Finset.univ fun i : Fin ((K (F := F)).nSub q) => share m d (m (oLoc d)) (Fin.cast (cores q) c) (Fin.cast (tiles q) i)
  dn q d c := bigSep Finset.univ fun i : Fin ((K (F := F)).nSub q) => share m d (result m d) (Fin.cast (cores q) c) (Fin.cast (tiles q) i)
  go q d c i := share m d (m (oLoc d)) (Fin.cast (cores q) c) (Fin.cast (tiles q) i)
  td q d c i := share m d (result m d) (Fin.cast (cores q) c) (Fin.cast (tiles q) i)
  x _ _ := iprop(emp)

instance P_storable : (P (F := F) m).IsStorable where
  st q d c := (inferInstance : BI.Storable (upEmb : UEmb _ 𝕄)
    (bigSep Finset.univ fun i : Fin ((K (F := F)).nSub q) => share m d (m (oLoc d)) (Fin.cast (cores q) c) (Fin.cast (tiles q) i)))
  dn q d c := (inferInstance : BI.Storable (upEmb : UEmb _ 𝕄)
    (bigSep Finset.univ fun i : Fin ((K (F := F)).nSub q) => share m d (result m d) (Fin.cast (cores q) c) (Fin.cast (tiles q) i)))
  go q d c i := (inferInstance : BI.Storable (upEmb : UEmb _ 𝕄) (share m d (m (oLoc d)) (Fin.cast (cores q) c) (Fin.cast (tiles q) i)))
  td q d c i := (inferInstance : BI.Storable (upEmb : UEmb _ 𝕄) (share m d (result m d) (Fin.cast (cores q) c) (Fin.cast (tiles q) i)))

/-! ## The tiles' obligation -/

def coords (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0__permute_sc (coords c s) xV (Memref.isWhole_whole _) pV (Memref.isWhole_whole _) oV (Memref.isWhole_whole _)
          sP (Memref.isWhole_whole _) inA (Memref.isWhole_whole _) inB (Memref.isWhole_whole _) outA (Memref.isWhole_whole _) outB (Memref.isWhole_whole _)
          cc0_scratch5 cc0_scratch6 cc0_scratch7 cc0_scratch8 cc0_scoped0) ⟨⟩ c s := rfl

theorem after_tile {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every entry of the permutation names a column. -/
def InRange : Prop := ∀ (d : Dev nD) (j : S512.Idx), (m (pLoc d) j : BitVec 32).toNat < 512

theorem tile_start {A B C D' : sProp 𝕄} : (iprop(A ∗ emp ∗ B ∗ C ∗ D') : sProp 𝕄) ⊢ iprop(A ∗ B ∗ C ∗ D') := by
  iintro ⟨HA, -, HB, HC, HD⟩
  isplitl [HA]; · iexact HA
  isplitl [HB]; · iexact HB
  isplitl [HC] <;> iassumption

theorem tileObl (hm : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ()))  _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  exact tile_start.trans ((tile_body d (coords ⟨_, hc.1⟩ ⟨_, hc.2⟩) (m (pLoc d)) (m (xLoc d)) (m (oLoc d)) O W
    (readShare (Fin.cast (cores 0) c) (Fin.cast (tiles 0) i)) (hm d) hO).trans (wp_mono frame _ _ fun _ => after_tile))

theorem vecSplit : (K (F := F)).VecSplit' (P m) 0 := by
  intro d c
  unfold P
  dsimp only
  iintro H; imodintro
  isplitl [H]; · iexact H
  iintro H; iexact H

/-! ## The launch -/

def u₀ : UU := (initOf (K (F := F)).hsCells (K (F := F)).hsToks, 1)

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  have hx : (bigSep Finset.univ fun t : Thread nD τ => bigSep Finset.univ fun q : Fin 1 => (P m).x q t) = (iprop(emp) : sProp 𝕄) :=
    (bigSep_congr fun _ _ => bigSep_none _).trans (bigSep_none _)
  rw [hx, bigSep_none]
  unfold u₀
  iintro Hu
  ihave H := (ownU_pair _ _) $$ Hu
  icases H with ⟨HH, -⟩
  imodintro
  isplitl [HH]; · iexact HH
  isplitr <;> iempintro

theorem unscoped_all (d : Dev nD) (W : (b : Ref sig .tc) → Buf (Elt F) ((d.tc : Thread nD τ).loc b)) :
    (unscopedBufs d W : sProp 𝕄) = iprop((xLoc d ↦{fullShare} W main_arg0) ∗ (pLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the arrays hold at the end. -/
abbrev FIN (d : Dev nD) : sProp 𝕄 :=
  iprop((xLoc d ↦{fullShare} m (xLoc d)) ∗ (pLoc d ↦{fullShare} m (pLoc d)) ∗ (oLoc d ↦{fullShare} result m d))

theorem st_all (d : Dev nD) : (bigSep Finset.univ fun c : Fin ((K (F := F)).nCore 0) => (P m).st 0 d c)
    = (iprop((xLoc d ↦{fullShare} m (xLoc d)) ∗ (pLoc d ↦{fullShare} m (pLoc d)) ∗ (oLoc d ↦{fullShare} m (oLoc d))) : sProp 𝕄) :=
  share_all m d (m (oLoc d))
theorem dn_all (d : Dev nD) : (bigSep Finset.univ fun c : Fin ((K (F := F)).nCore 0) => (P m).dn 0 d c) = FIN m d :=
  share_all m d (result m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_all]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [st_all]; iexact Harr
  iintro ⟨Hst, Hdn⟩
  ihave Harr := (Entails.of_eq (dn_all m d)) $$ Hdn
  imodintro
  isplitl [Hst]; · iexact Hst
  isplitr [Hb Hts]
  · iexact Harr
  isplitl [Hb] <;> iassumption

def fq (d : Dev nD) (s' : Phys nD τ sig (Elt F)) : Prop :=
  s'.mem.mem (xLoc d) = m (xLoc d) ∧ s'.mem.mem (pLoc d) = m (pLoc d) ∧ s'.mem.mem (oLoc d) = result m d

theorem agree (ℓ : Loc nD τ sig) (f : Buf (Elt F) ℓ) (s' : Phys nD τ sig (Elt F)) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨Hx, Hp, Ho⟩, HSI⟩
  ihave H := (agree (xLoc d) (m (xLoc d)) s') $$ [HSI Hx]
  · isplitl [HSI] <;> iassumption
  icases H with ⟨%h1, HSI⟩
  ihave H := (agree (pLoc d) (m (pLoc d)) s') $$ [HSI Hp]
  · isplitl [HSI] <;> iassumption
  icases H with ⟨%h2, HSI⟩
  ihave H := (agree (oLoc d) (result m d) s') $$ [HSI Ho]
  · isplitl [HSI] <;> iassumption
  icases H with ⟨%h3, -⟩
  ipureintro; exact ⟨h1, h2, h3⟩

/-- The end of a run: the arguments as they were, the result permuted, the counters at zero. -/
def Final : PUnit × MemSt nD τ sig (Elt F) → Prop := fun r =>
  (∀ d : Dev nD, r.2.mem (xLoc d) = m (xLoc d) ∧ r.2.mem (pLoc d) = m (pLoc d) ∧ r.2.mem (oLoc d) = result m d) ∧ r.2.sem = fun _ => 0

/-- The kernel's run, over any float values. -/
theorem run_main [∀ e, Nonempty (Elt F e)] (hm : InRange m) :
    θ_run (Cert.KernelIdeal.defs (F := F)) (Cert.KernelIdeal.threads (F := F)) ⟨m, fun _ => 0, ρ⟩ (Final m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hm)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Final m) (fun _ h hz => ⟨h, hz⟩)

end Cert.Proof.Permute

end
-- ==== Proof.RefValue.lean ====
module

public import proofs.«01_k».proof.Proof.Launch
public import proofs.«01_k».proof.Proof.Gen.ReferenceIdeal.Run
public import proofs.«01_k».proof.Proof.Gen.Reference.Run
public import proofs.«01_k».proof.Proof.Gen.Pre_perm_in_columns

@[expose] public section

noncomputable section

namespace Cert.Proof.Permute

open Cert.ReferenceIdeal Cert.ReferenceIdeal.Gen
open Idealize.ShloMosaic

variable {F : FTy → Type} [FloatOps F]

/-! ## What the reference computes -/

/-- The precondition's two comparisons of a word, with a sign, hold just when it is below 512. -/
theorem word_facts (v : BitVec 32) : (IntOp.andi (IntOp.cmpi .sge v 0#32) (IntOp.cmpi .slt v 512#32) = 1#1) ↔ v.toNat < 512 := by
  have hand : ∀ p q : Bool, IntOp.andi (BitVec.ofBool p) (BitVec.ofBool q) = 1#1 ↔ p = true ∧ q = true := by decide
  have hv := v.isLt
  simp only [IntOp.cmpi, hand, BitVec.sle_eq_decide, BitVec.slt_eq_decide, decide_eq_true_eq, BitVec.toInt_eq_toNat_cond,
    BitVec.toNat_ofNat, Nat.reducePow, Nat.reduceMod]
  omega

/-- A word below 512, read with a sign, is itself. -/
theorem toInt_small {v : BitVec 32} (h : v.toNat < 512) : v.toInt = (v.toNat : ℤ) := by
  rw [BitVec.toInt_eq_toNat_cond, if_pos (by omega)]

/-- Such a word is not negative. -/
theorem slt_zero {v : BitVec 32} (h : v.toNat < 512) : IntOp.cmpi .slt v 0#32 = 0#1 := by
  have e : v.slt 0#32 = false := by
    rw [BitVec.slt_eq_decide, toInt_small h]; simp
  simp only [IntOp.cmpi, e]; rfl

/-- The dimension numbers of the reference's gather. -/
abbrev dims := gather_S65536x512_S512x1_S65536x512_0_1_n_n_1_1_655361

/-- The position in the column of start indices that column `j` of the result reads. -/
def startAt (j : S65536x512.Idx) : S512x1.Idx := fun a => match a with | ⟨0, _⟩ => ⟨(j 1).val, (j 1).isLt⟩ | ⟨1, _⟩ => ⟨0, Nat.one_pos⟩

theorem siIdx_eq (j : S65536x512.Idx) (k : Fin dims.startIndexMap.length) : dims.siIdx j k = startAt j := by
  have hk : k.val = 0 := by have h : k.val < 1 := k.isLt; omega
  funext b; refine Fin.ext ?_
  match b with
  | ⟨0, _⟩ => rfl
  | ⟨1, _⟩ => exact hk

/-- The gather's element at `(r, j)` is `fx` at row `r` and the column that start index `j` names. -/
theorem gather_at (fx : S65536x512.Idx → Elt F .f32) (ix : IVec S512x1 32) (j : S65536x512.Idx) (h : (ix (startAt j)).toNat < 512) :
    Host.gather dims fx ix j = fx (atBig (j 0).val (ix (startAt j)).toNat) := by
  refine congrArg fx (atBig_eq _ _ _ ?_ ?_)
  · show dims.start j ix 0 + dims.batchCoord j 0 + dims.offCoord j 0 = _
    rw [GatherDims.batchCoord_eq_zero _ _ _ List.not_mem_nil]
    have hs : dims.start j ix 0 = 0 := by
      unfold GatherDims.start
      exact dif_neg (by decide)
    rw [hs, Nat.zero_add]
    rfl
  · show dims.start j ix 1 + dims.batchCoord j 1 + dims.offCoord j 1 = _
    rw [GatherDims.batchCoord_eq_zero _ _ _ List.not_mem_nil, GatherDims.offCoord_eq_zero _ _ _ (fun h => ((GatherDims.mem_sKept _ _).mp h).1 (by decide))]
    unfold GatherDims.start
    rw [dif_pos (by decide), siIdx_eq, toInt_small h]
    show min (((ix (startAt j)).toNat : ℤ).toNat) (512 - 1) + 0 + 0 = _
    rw [Int.toNat_natCast]
    omega

/-- The reference's term, where every entry of the permutation names a column, is the result of the kernel. -/
theorem reference_eq (w : S512.Idx → BitVec 32) (hw : ∀ j, (w j).toNat < 512) (fx : S65536x512.Idx → Elt F .f32) :
    Host.gather dims fx (broadcastInDim S512x1 ![0] bcast_S512_S512x1_0
      (select (cmpi .slt w (broadcastInDim S512 ![] bcast_S_S512 (constantI S_ 32 0#32)))
        (addi w (broadcastInDim S512 ![] bcast_S_S512 (constantI S_ 32 512#32))) w)) = outVal w fx := by
  funext j
  have e : (broadcastInDim S512x1 ![0] bcast_S512_S512x1_0
      (select (cmpi .slt w (broadcastInDim S512 ![] bcast_S_S512 (constantI S_ 32 0#32)))
        (addi w (broadcastInDim S512 ![] bcast_S_S512 (constantI S_ 32 512#32))) w)) (startAt j) = w (at512 (j 1).val) := by
    have hi : ∀ i : S512.Idx, select (cmpi .slt w (broadcastInDim S512 ![] bcast_S_S512 (constantI S_ 32 0#32)))
        (addi w (broadcastInDim S512 ![] bcast_S_S512 (constantI S_ 32 512#32))) w i = w i := by
      intro i
      show (if IntOp.cmpi .slt (w i) 0#32 = 1#1 then _ else _) = _
      rw [slt_zero (hw i)]; rfl
    refine (hi _).trans (congrArg w (at512_eq _ _ ?_))
    rfl
  rw [gather_at fx _ j (by rw [e]; exact hw _), e]
  rfl

/-! ## The precondition -/

/-- The precondition at `w`: every entry of it names a column. -/
theorem in_range {F : FTy → Type} [FloatOps F] (fx : S65536x512.Idx → Elt F .f32) (w : S512.Idx → BitVec 32)
    (h : Cert.Pre_perm_in_columns.fn (F := F) fx w = fun _ => 1#1) (j : S512.Idx) : (w j).toNat < 512 :=
  (word_facts _).mp (congrFun h j)

end Cert.Proof.Permute

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.ReferenceIdeal
public import proofs.«01_k».proof.Proof.Gen.Pre_perm_in_columns
public import proofs.«01_k».proof.Proof.Gen.Reference.Run
public import proofs.«01_k».proof.Proof.Gen.ReferenceIdeal.Run
public import proofs.«01_k».proof.Proof.Launch
public import proofs.«01_k».proof.Proof.RefValue
public import Idealize.ShloMosaic.Adequacy
public import Idealize.ShloMosaic.Init

@[expose] public section

noncomputable section

/-! The kernel permutes the columns of `x`: entry `(r, j)` of its result is entry `(r, perm j)` of `x`. One run of it is proved for
any float values (`Permute.run_main`); the claims below read that run, and the generated runs of the reference, at the
bit-exact and at the ideal values. -/

namespace Cert.Proof

open Idealize.ShloMosaic Idealize.SL.Sem Cert.Proof.Permute

/-- The kernel at the bit-exact values: the idealized program's text is the kernel's own, so its run is the kernel's. -/
theorem run_kernel (m : (ℓ : Loc Cert.Kernel.nD Cert.Kernel.τ Cert.Kernel.sig) → Buf (Elt Bits) ℓ) (ρ : Dev Cert.Kernel.nD → PrngReg)
    (hm : InRange (F := Bits) m) :
    θ_run (Cert.Kernel.defs (F := Bits)) (Cert.Kernel.threads (F := Bits)) ⟨m, fun _ => 0, ρ⟩ (Final (F := Bits) m) :=
  run_main (F := Bits) m ρ hm

/-- The precondition puts every entry of the permutation below 512. -/
theorem inRange_bits {m : (ℓ : Loc Cert.Kernel.nD Cert.Kernel.τ Cert.Kernel.sig) → Buf (Elt Bits) ℓ} (h : Cert.Pre_Kernel m) :
    InRange (F := Bits) m := fun d j => in_range (F := Bits) _ _ (h d) j

theorem inRange_ideal {m : (ℓ : Loc Cert.KernelIdeal.nD Cert.KernelIdeal.τ Cert.KernelIdeal.sig) → Buf (Elt Ideal) ℓ}
    (h : Cert.Pre_KernelIdeal m) : InRange (F := Ideal) m := fun d j => in_range (F := Ideal) _ _ (h d) j

/-- The kernel's frame: both arguments end as they began, every counter at zero. -/
theorem frame_kernel : Cert.quiescent_Kernel := fun m ρ hpre =>
  (θ_run Cert.Kernel.defs _ _).mono (fun _ h => ⟨fun c => ⟨(h.1 c).1, (h.1 c).2.1⟩, h.2⟩) (run_kernel m ρ (inRange_bits hpre))

theorem frame_kernelIdeal : Cert.quiescent_KernelIdeal := fun m ρ hpre =>
  (θ_run Cert.KernelIdeal.defs _ _).mono (fun _ h => ⟨fun c => ⟨(h.1 c).1, (h.1 c).2.1⟩, h.2⟩)
    (run_main (F := Ideal) m ρ (inRange_ideal hpre))

/-- The reference's frame: no operation of it writes an argument, and it has no counters. -/
theorem frame_reference : Cert.quiescent_Reference := fun m ρ _ =>
  (θ_run Cert.Reference.defs _ _).mono (fun r h => ⟨fun c => ⟨(h c).2.1, (h c).2.2⟩, sem_eq_zero_of_no_sems (by decide) r.2⟩)
    (Cert.Reference.Value.run (F := Bits) m ρ)

theorem frame_referenceIdeal : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- Over the ideal values, the kernel and the reference end with the same result: `x` with its columns permuted. -/
theorem algebraic : Cert.algebraic_KernelIdeal_ReferenceIdeal := by
  intro m ρ m' ρ' hpre hagree
  refine ⟨fun c => result (F := Ideal) m c, ?_, ?_⟩
  · exact (θ_run Cert.KernelIdeal.defs _ _).mono (fun _ h c => ⟨(h.1 c).2.2, (h.1 c).1, (h.1 c).2.1⟩)
      (run_main (F := Ideal) m ρ (inRange_ideal hpre))
  · refine (θ_run Cert.ReferenceIdeal.defs _ _).mono (fun _ h c => ⟨(h c).1.trans ?_, (h c).2.1, (h c).2.2⟩)
      (Cert.ReferenceIdeal.Value.run (F := Ideal) m' ρ')
    rw [(hagree c).1, (hagree c).2]
    exact reference_eq (F := Ideal) _ (inRange_ideal hpre c) _

/-- Over the bit-exact values, the kernel and the reference end with the same bits. -/
theorem bitexact : Cert.bitexact_Kernel_Reference := by
  intro m ρ m' ρ' hpre hagree
  refine ⟨fun c => result (F := Bits) m c, ?_, ?_⟩
  · exact (θ_run Cert.Kernel.defs _ _).mono (fun _ h c => ⟨(h.1 c).2.2, (h.1 c).1, (h.1 c).2.1⟩)
      (run_kernel m ρ (inRange_bits hpre))
  · refine (θ_run Cert.Reference.defs _ _).mono (fun _ h c => ⟨(h c).1.trans ?_, (h c).2.1, (h c).2.2⟩)
      (Cert.Reference.Value.run (F := Bits) m' ρ')
    rw [(hagree c).1, (hagree c).2]
    exact reference_eq (F := Bits) _ (inRange_bits hpre c) _

theorem claim : Cert.Claim := ⟨Cert.Kernel.Gen.facts, Cert.KernelIdeal.Gen.facts, Cert.Reference.Gen.facts, Cert.ReferenceIdeal.Gen.facts, Cert.Pre_perm_in_columns.Gen.facts,
  frame_kernel, frame_kernelIdeal, frame_reference, fun m ρ _ => frame_reference m ρ trivial, frame_referenceIdeal,
  fun m ρ _ => frame_referenceIdeal m ρ trivial, trivial, algebraic, bitexact⟩

end Cert.Proof

end
